-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_increasing [hPre_finite_increasing : Cert.Pre_finite_increasing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_finite_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_increasing [hPre_finite_increasing : Cert.Pre_finite_increasing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_finite_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_increasing [hKernelIdeal : Cert.KernelIdeal.Facts] [hPre_finite_increasing : Cert.Pre_finite_increasing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_increasing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_increasing [hReferenceIdeal : Cert.ReferenceIdeal.Facts] [hPre_finite_increasing : Cert.Pre_finite_increasing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_increasing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_increasing [hKernelIdeal : Cert.KernelIdeal.Facts] [hReferenceIdeal : Cert.ReferenceIdeal.Facts] [hPre_finite_increasing : Cert.Pre_finite_increasing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_increasing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_increasing : Cert.Pre_finite_increasing.Facts),
    quiescent_Kernel (hKernel := hKernel)
    ∧ quiescent_KernelIdeal (hKernelIdeal := hKernelIdeal)
    ∧ quiescent_KernelIdeal_pre_finite_increasing (hKernelIdeal := hKernelIdeal) (hPre_finite_increasing := hPre_finite_increasing)
    ∧ quiescent_ReferenceIdeal (hReferenceIdeal := hReferenceIdeal)
    ∧ quiescent_ReferenceIdeal_pre_finite_increasing (hReferenceIdeal := hReferenceIdeal) (hPre_finite_increasing := hPre_finite_increasing)
    ∧ preserves_Kernel_KernelIdeal
    ∧ algebraic_KernelIdeal_ReferenceIdeal_pre_finite_increasing (hKernelIdeal := hKernelIdeal) (hReferenceIdeal := hReferenceIdeal) (hPre_finite_increasing := hPre_finite_increasing)
-- ==== Pre_finite_increasing.lean ====
abbrev S524288x128 : Shape := ⟨2, ![524288, 128]⟩
abbrev S524288 : Shape := ⟨1, ![524288]⟩
abbrev S21x128 : Shape := ⟨2, ![21, 128]⟩
abbrev S21 : Shape := ⟨1, ![21]⟩
abbrev S_ : Shape := ⟨0, ![]⟩
abbrev S20 : Shape := ⟨1, ![20]⟩

class Facts : Prop where
  bcast_S_S524288x128 : S_.BroadcastsInDim S524288x128 (![] : Fin 0 → Fin S524288x128.rank)
  bcast_S_S524288 : S_.BroadcastsInDim S524288 (![] : Fin 0 → Fin S524288.rank)
  bcast_S_S21x128 : S_.BroadcastsInDim S21x128 (![] : Fin 0 → Fin S21x128.rank)
  bcast_S_S21 : S_.BroadcastsInDim S21 (![] : Fin 0 → Fin S21.rank)
  slices_S21_S20_0 : S21.Slices ![0] S20
  slices_S21_S20_1 : S21.Slices ![1] S20

variable [Facts]

def fn {F : FTy → Type} [FloatOps F] (main_arg0 : FVec F S524288x128 .f32) (main_arg1 : FVec F S524288 .f32) (main_arg2 : FVec F S21x128 .f32) (main_arg3 : FVec F S21 .f32) (main_arg4 : FVec F S21 .f32) : IVec S524288x128 1 × IVec S524288 1 × IVec S21x128 1 × IVec S21 1 × IVec S21 1 × IVec S20 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_v3 : FVec F S524288 .f32 := Host.absf main_arg1
  let main_cst_0 : FVec F S_ .f32 := constant S_ .f32 0x7F800000#32
  let main_v4 : FVec F S524288 .f32 := broadcastInDim S524288 ![] bcast_S_S524288 main_cst_0
  let main_v5 : IVec S524288 1 := cmpf .olt main_v3 main_v4
  let main_v6 : FVec F S21x128 .f32 := Host.absf main_arg2
  let main_cst_1 : FVec F S_ .f32 := constant S_ .f32 0x7F800000#32
  let main_v7 : FVec F S21x128 .f32 := broadcastInDim S21x128 ![] bcast_S_S21x128 main_cst_1
  let main_v8 : IVec S21x128 1 := cmpf .olt main_v6 main_v7
  let main_v9 : FVec F S21 .f32 := Host.absf main_arg3
  let main_cst_2 : FVec F S_ .f32 := constant S_ .f32 0x7F800000#32
  let main_v10 : FVec F S21 .f32 := broadcastInDim S21 ![] bcast_S_S21 main_cst_2
  let main_v11 : IVec S21 1 := cmpf .olt main_v9 main_v10
  let main_v12 : FVec F S21 .f32 := Host.absf main_arg4
  let main_cst_3 : FVec F S_ .f32 := constant S_ .f32 0x7F800000#32
  let main_v13 : FVec F S21 .f32 := broadcastInDim S21 ![] bcast_S_S21 main_cst_3
  let main_v14 : IVec S21 1 := cmpf .olt main_v12 main_v13
  let main_v15 : FVec F S20 .f32 := (extractStridedSlice S20 ![0] · slices_S21_S20_0) main_arg4
  let main_v16 : FVec F S20 .f32 := (extractStridedSlice S20 ![1] · slices_S21_S20_1) main_arg4
  let main_v17 : IVec S20 1 := cmpf .olt main_v15 main_v16
  (main_v2, main_v5, main_v8, main_v11, main_v14, main_v17)
-- ==== Kernel.lean ====
abbrev S524288x128 : Shape := ⟨2, ![524288, 128]⟩
abbrev S524288 : Shape := ⟨1, ![524288]⟩
abbrev S21x128 : Shape := ⟨2, ![21, 128]⟩
abbrev S21 : Shape := ⟨1, ![21]⟩
abbrev S_ : Shape := ⟨0, ![]⟩
abbrev S24x128 : Shape := ⟨2, ![24, 128]⟩
abbrev S1 : Shape := ⟨1, ![1]⟩
abbrev S24x1 : Shape := ⟨2, ![24, 1]⟩
abbrev S2 : Shape := ⟨1, ![2]⟩
abbrev S20 : Shape := ⟨1, ![20]⟩
abbrev S16x1x32768 : Shape := ⟨3, ![16, 1, 32768]⟩
abbrev S32768x128 : Shape := ⟨2, ![32768, 128]⟩
abbrev S1x1x32768 : Shape := ⟨3, ![1, 1, 32768]⟩
abbrev S24x32768 : Shape := ⟨2, ![24, 32768]⟩
abbrev S8x32768 : Shape := ⟨2, ![8, 32768]⟩
abbrev S32768 : Shape := ⟨1, ![32768]⟩
abbrev S1x32768 : Shape := ⟨2, ![1, 32768]⟩

abbrev nBuf : Space → Nat
  | .hbm => 59
  | .vmem => 12
  | .smem => 0
  | _ => 0

abbrev bufTy : (tb : Table) → Fin (tcTables nBuf tb) → BufTy
  | .hbm, ⟨0, _⟩ => ⟨S524288x128, .f32⟩
  | .hbm, ⟨1, _⟩ => ⟨S524288, .f32⟩
  | .hbm, ⟨2, _⟩ => ⟨S21x128, .f32⟩
  | .hbm, ⟨3, _⟩ => ⟨S21, .f32⟩
  | .hbm, ⟨4, _⟩ => ⟨S21, .f32⟩
  | .hbm, ⟨5, _⟩ => ⟨S_, .f32⟩
  | .hbm, ⟨6, _⟩ => ⟨S24x128, .f32⟩
  | .hbm, ⟨7, _⟩ => ⟨S_, .i32⟩
  | .hbm, ⟨8, _⟩ => ⟨S1, .i32⟩
  | .hbm, ⟨9, _⟩ => ⟨S24x128, .f32⟩
  | .hbm, ⟨10, _⟩ => ⟨S_, .f32⟩
  | .hbm, ⟨11, _⟩ => ⟨S24x1, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S24x1, .f32⟩
  | .hbm, ⟨18, _⟩ => ⟨S20, .f32⟩
  | .hbm, ⟨19, _⟩ => ⟨S20, .f32⟩
  | .hbm, ⟨20, _⟩ => ⟨S20, .f32⟩
  | .hbm, ⟨21, _⟩ => ⟨S20, .f32⟩
  | .hbm, ⟨22, _⟩ => ⟨S20, .f32⟩
  | .hbm, ⟨23, _⟩ => ⟨S_, .f32⟩
  | .hbm, ⟨24, _⟩ => ⟨S20, .f32⟩
  | .hbm, ⟨25, _⟩ => ⟨S20, .i1⟩
  | .hbm, ⟨26, _⟩ => ⟨S_, .f32⟩
  | .hbm, ⟨27, _⟩ => ⟨S20, .f32⟩
  | .hbm, ⟨28, _⟩ => ⟨S20, .f32⟩
  | .hbm, ⟨29, _⟩ => ⟨S20, .f32⟩
  | .hbm, ⟨30, _⟩ => ⟨S20, .f32⟩
  | .hbm, ⟨31, _⟩ => ⟨S_, .f32⟩
  | .hbm, ⟨32, _⟩ => ⟨S24x1, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S24x1, .f32⟩
  | .hbm, ⟨39, _⟩ => ⟨S_, .f32⟩
  | .hbm, ⟨40, _⟩ => ⟨S24x1, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S24x1, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S_, .f32⟩
  | .hbm, ⟨53, _⟩ => ⟨S24x1, .f32⟩
  | .hbm, ⟨54, _⟩ => ⟨S16x1x32768, .f32⟩
  | .hbm, ⟨55, _⟩ => ⟨S16x1x32768, .f32⟩
  | .hbm, ⟨56, _⟩ => ⟨S16x1x32768, .f32⟩
  | .hbm, ⟨57, _⟩ => ⟨S524288, .f32⟩
  | .hbm, ⟨58, _⟩ => ⟨S524288, .f32⟩
  | .local _ .vmem, ⟨0, _⟩ => ⟨S32768x128, .f32⟩
  | .local _ .vmem, ⟨1, _⟩ => ⟨S32768x128, .f32⟩
  | .local _ .vmem, ⟨2, _⟩ => ⟨S1x1x32768, .f32⟩
  | .local _ .vmem, ⟨3, _⟩ => ⟨S1x1x32768, .f32⟩
  | .local _ .vmem, ⟨4, _⟩ => ⟨S24x128, .f32⟩
  | .local _ .vmem, ⟨5, _⟩ => ⟨S24x1, .f32⟩
  | .local _ .vmem, ⟨6, _⟩ => ⟨S24x1, .f32⟩
  | .local _ .vmem, ⟨7, _⟩ => ⟨S24x1, .f32⟩
  | .local _ .vmem, ⟨8, _⟩ => ⟨S1x1x32768, .f32⟩
  | .local _ .vmem, ⟨9, _⟩ => ⟨S1x1x32768, .f32⟩
  | .local _ .vmem, ⟨10, _⟩ => ⟨S1x1x32768, .f32⟩
  | .local _ .vmem, ⟨11, _⟩ => ⟨S1x1x32768, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_c_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_c_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_c_9 : Ref sig .tc := ⟨.hbm, 41, rfl⟩
abbrev main_v25 : Ref sig .tc := ⟨.hbm, 42, rfl⟩
abbrev main_c_10 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_11 : Ref sig .tc := ⟨.hbm, 47, rfl⟩
abbrev main_v29 : Ref sig .tc := ⟨.hbm, 48, rfl⟩
abbrev main_c_12 : Ref sig .tc := ⟨.hbm, 49, rfl⟩
abbrev main_v30 : Ref sig .tc := ⟨.hbm, 50, rfl⟩
abbrev main_v31 : Ref sig .tc := ⟨.hbm, 51, rfl⟩
abbrev main_cst_13 : Ref sig .tc := ⟨.hbm, 52, rfl⟩
abbrev main_v32 : Ref sig .tc := ⟨.hbm, 53, rfl⟩
abbrev main_v33 : Ref sig .tc := ⟨.hbm, 54, rfl⟩
abbrev main_v34_0 : Ref sig .tc := ⟨.hbm, 55, rfl⟩
abbrev main_v34_1 : Ref sig .tc := ⟨.hbm, 56, rfl⟩
abbrev main_v35 : Ref sig .tc := ⟨.hbm, 57, rfl⟩
abbrev main_v36 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x32768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x32768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S524288x128 : Shape := ⟨2, ![524288, 128]⟩
abbrev S524288 : Shape := ⟨1, ![524288]⟩
abbrev S21x128 : Shape := ⟨2, ![21, 128]⟩
abbrev S21 : Shape := ⟨1, ![21]⟩
abbrev S128x21 : Shape := ⟨2, ![128, 21]⟩
abbrev S524288x21 : Shape := ⟨2, ![524288, 21]⟩
abbrev S1x21 : Shape := ⟨2, ![1, 21]⟩
abbrev S_ : Shape := ⟨0, ![]⟩
abbrev S524288x1 : Shape := ⟨2, ![524288, 1]⟩
abbrev S524288x1x1 : Shape := ⟨3, ![524288, 1, 1]⟩
abbrev S1 : Shape := ⟨1, ![1]⟩
abbrev S1x1x1 : Shape := ⟨3, ![1, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288, .f32⟩
  | .hbm, ⟨2, _⟩ => ⟨S21x128, .f32⟩
  | .hbm, ⟨3, _⟩ => ⟨S21, .f32⟩
  | .hbm, ⟨4, _⟩ => ⟨S21, .f32⟩
  | .hbm, ⟨5, _⟩ => ⟨S128x21, .f32⟩
  | .hbm, ⟨6, _⟩ => ⟨S524288x21, .f32⟩
  | .hbm, ⟨7, _⟩ => ⟨S1x21, .f32⟩
  | .hbm, ⟨8, _⟩ => ⟨S524288x21, .f32⟩
  | .hbm, ⟨9, _⟩ => ⟨S524288x21, .f32⟩
  | .hbm, ⟨10, _⟩ => ⟨S_, .f32⟩
  | .hbm, ⟨11, _⟩ => ⟨S524288, .f32⟩
  | .hbm, ⟨12, _⟩ => ⟨S_, .f32⟩
  | .hbm, ⟨13, _⟩ => ⟨S524288, .f32⟩
  | .hbm, ⟨14, _⟩ => ⟨S524288, .f32⟩
  | .hbm, ⟨15, _⟩ => ⟨S524288x1, .f32⟩
  | .hbm, ⟨16, _⟩ => ⟨S524288x21, .f32⟩
  | .hbm, ⟨17, _⟩ => ⟨S524288x21, .f32⟩
  | .hbm, ⟨18, _⟩ => ⟨S524288x21, .f32⟩
  | .hbm, ⟨19, _⟩ => ⟨S_, .f32⟩
  | .hbm, ⟨20, _⟩ => ⟨S524288, .f32⟩
  | .hbm, ⟨21, _⟩ => ⟨S524288x1, .f32⟩
  | .hbm, ⟨22, _⟩ => ⟨S524288x21, .f32⟩
  | .hbm, ⟨23, _⟩ => ⟨S524288x21, .f32⟩
  | .hbm, ⟨24, _⟩ => ⟨S524288x1, .f32⟩
  | .hbm, ⟨25, _⟩ => ⟨S1x21, .f32⟩
  | .hbm, ⟨26, _⟩ => ⟨S524288x21, .f32⟩
  | .hbm, ⟨27, _⟩ => ⟨S524288x21, .f32⟩
  | .hbm, ⟨28, _⟩ => ⟨S524288x21, .f32⟩
  | .hbm, ⟨29, _⟩ => ⟨S524288x21, .f32⟩
  | .hbm, ⟨30, _⟩ => ⟨S524288x21, .i32⟩
  | .hbm, ⟨31, _⟩ => ⟨S_, .f32⟩
  | .hbm, ⟨32, _⟩ => ⟨S_, .i32⟩
  | .hbm, ⟨33, _⟩ => ⟨S524288, .f32⟩
  | .hbm, ⟨34, _⟩ => ⟨S524288, .i32⟩
  | .hbm, ⟨35, _⟩ => ⟨S524288x21, .f32⟩
  | .hbm, ⟨36, _⟩ => ⟨S524288x21, .f32⟩
  | .hbm, ⟨37, _⟩ => ⟨S_, .f32⟩
  | .hbm, ⟨38, _⟩ => ⟨S524288, .f32⟩
  | .hbm, ⟨39, _⟩ => ⟨S524288, .f32⟩
  | .hbm, ⟨40, _⟩ => ⟨S_, .f32⟩
  | .hbm, ⟨41, _⟩ => ⟨S_, .f32⟩
  | .hbm, ⟨42, _⟩ => ⟨S524288, .f32⟩
  | .hbm, ⟨43, _⟩ => ⟨S524288, .f32⟩
  | .hbm, ⟨44, _⟩ => ⟨S524288x1, .i32⟩
  | .hbm, ⟨45, _⟩ => ⟨S_, .i32⟩
  | .hbm, ⟨46, _⟩ => ⟨S524288x1, .i32⟩
  | .hbm, ⟨47, _⟩ => ⟨S524288x1, .i1⟩
  | .hbm, ⟨48, _⟩ => ⟨S_, .i32⟩
  | .hbm, ⟨49, _⟩ => ⟨S524288x1, .i32⟩
  | .hbm, ⟨50, _⟩ => ⟨S524288x1, .i32⟩
  | .hbm, ⟨51, _⟩ => ⟨S524288x1, .i32⟩
  | .hbm, ⟨52, _⟩ => ⟨S524288x1x1, .i32⟩
  | .hbm, ⟨53, _⟩ => ⟨S1, .i32⟩
  | .hbm, ⟨54, _⟩ => ⟨S_, .i32⟩
  | .hbm, ⟨55, _⟩ => ⟨S524288x1x1, .i32⟩
  | .hbm, ⟨56, _⟩ => ⟨S524288x1x1, .i1⟩
  | .hbm, ⟨57, _⟩ => ⟨S1x1x1, .i32⟩
  | .hbm, ⟨58, _⟩ => ⟨S524288x1x1, .i32⟩
  | .hbm, ⟨59, _⟩ => ⟨S524288x1x1, .i1⟩
  | .hbm, ⟨60, _⟩ => ⟨S524288x1x1, .i1⟩
  | .hbm, ⟨61, _⟩ => ⟨S_, .i1⟩
  | .hbm, ⟨62, _⟩ => ⟨S524288x1, .i1⟩
  | .hbm, ⟨63, _⟩ => ⟨S524288x1, .f32⟩
  | .hbm, ⟨64, _⟩ => ⟨S_, .f32⟩
  | .hbm, ⟨65, _⟩ => ⟨S524288x1, .f32⟩
  | .hbm, ⟨66, _⟩ => ⟨S524288x1, .f32⟩
  | .hbm, ⟨67, _⟩ => ⟨S524288, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_cst : Ref sig .tc := ⟨.hbm, 31, rfl⟩
abbrev main_call0_c : Ref sig .tc := ⟨.hbm, 32, rfl⟩
abbrev main_call0_v1_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v31 : Ref sig .tc := ⟨.hbm, 66, rfl⟩
abbrev main_v32 : Ref sig .tc := ⟨.hbm, 67, rfl⟩

abbrev nD : Nat := 1
abbrev τ : Topo := Topo.v7x

variable {F : FTy → Type} [FloatOps F]
-- ==== Proof.Pre.lean ====
/-
  The precondition read at the elements: every argument element is a real number, and the action values increase
  strictly.
-/
module

public import proofs.«01_k».proof.Pre_finite_increasing
public import Idealize.ShloMosaic.Lib.Pointwise

@[expose] public section

set_option maxRecDepth 16384

noncomputable section

namespace Cert.Proof.Pre

open Cert.Pre_finite_increasing
open Idealize.ShloMosaic

theorem ofBits_top : Ideal.ofBits .f32 0x7F800000#32 = ⊤ := by
  simp [Ideal.ofBits, Ideal.ieee]

/-- A number whose absolute value is below +∞ is real. -/
theorem real_of_abs (a : EReal) (h : max a (-a) < ⊤) : ∃ r : ℝ, a = (r : EReal) := by
  induction a using EReal.rec with
  | bot => simp at h
  | coe r => exact ⟨r, rfl⟩
  | top => simp at h

variable [Facts]
variable (x : FVec Ideal S524288x128 .f32) (a : FVec Ideal S524288 .f32) (W : FVec Ideal S21x128 .f32)
variable (b v : FVec Ideal S21 .f32)

/-- One comparison of an absolute value with +∞. -/
theorem real_of_word (y : EReal) (e : BitVec.ofBool (decide (FloatOps.absf (F := Ideal) (φ := .f32) y < Ideal.ofBits .f32 0x7F800000#32)) = 1#1) :
    ∃ r : ℝ, y = (r : EReal) := by
  rw [ofBits_top] at e
  refine real_of_abs y ?_
  by_contra hn
  have hn' : ¬ (FloatOps.absf (F := Ideal) (φ := .f32) y < (⊤ : EReal)) := hn
  rw [decide_eq_false hn'] at e
  simp at e

theorem real_x (h : (fn x a W b v).1 = fun _ => 1#1) (i : Fin 524288) (k : Fin 128) : ∃ r : ℝ, x (ix2 i k) = (r : EReal) := by
  have e := congrFun h (ix2 i k)
  pointwise [fn] at e
  exact real_of_word _ e

theorem real_a (h : (fn x a W b v).2.1 = fun _ => 1#1) (i : Fin 524288) : ∃ r : ℝ, a (ix1 i) = (r : EReal) := by
  have e := congrFun h (ix1 i)
  pointwise [fn] at e
  exact real_of_word _ e

theorem real_W (h : (fn x a W b v).2.2.1 = fun _ => 1#1) (j : Fin 21) (k : Fin 128) : ∃ r : ℝ, W (ix2 j k) = (r : EReal) := by
  have e := congrFun h (ix2 j k)
  pointwise [fn] at e
  exact real_of_word _ e

theorem real_b (h : (fn x a W b v).2.2.2.1 = fun _ => 1#1) (j : Fin 21) : ∃ r : ℝ, b (ix1 j) = (r : EReal) := by
  have e := congrFun h (ix1 j)
  pointwise [fn] at e
  exact real_of_word _ e

theorem real_v (h : (fn x a W b v).2.2.2.2.1 = fun _ => 1#1) (j : Fin 21) : ∃ r : ℝ, v (ix1 j) = (r : EReal) := by
  have e := congrFun h (ix1 j)
  pointwise [fn] at e
  exact real_of_word _ e

theorem step_v (h : (fn x a W b v).2.2.2.2.2 = fun _ => 1#1) (j : Fin 20) :
    v (ix1 j.castSucc) < v (ix1 j.succ) := by
  have e := congrFun h (ix1 j)
  pointwise [fn] at e
  have e' : v (ix1 ⟨j.val, by omega⟩) < v (ix1 ⟨1 + j.val, by omega⟩) := by
    by_contra hn
    rw [decide_eq_false hn] at e
    simp at e
  have hs : j.succ = (⟨1 + j.val, by omega⟩ : Fin 21) := Fin.ext (by simp [Nat.add_comm])
  rw [hs]
  exact e'

end Cert.Proof.Pre

end
-- ==== Proof.Row.lean ====
/-
  One row, over the real numbers: 21 logits `l`, 21 increasing action values `v`, one action `a`. What the reference
  computes (softmax less the largest logit, its entropy, the probability at the nearest action value) and what the kernel
  computes (24 padded rows, one sum of exponentials, thresholds at the midpoints doubled) are the same two numbers,
  `selected l k` and `entropyOf l`.
-/
module

public import Idealize.ShloMosaic.PureOps.Ideal.Laws

@[expose] public section

noncomputable section

namespace Cert.Proof.Row

open Idealize.ShloMosaic
open scoped BigOperators

/-- A finite sum of reals, as extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The sum of the exponentials of the logits. -/
def total (l : Fin 21 → ℝ) : ℝ := ∑ j, Real.exp (l j)

/-- The softmax probability of column `k`. -/
def selected (l : Fin 21 → ℝ) (k : Fin 21) : ℝ := Real.exp (l k) / total l

/-- The entropy of the softmax over log 21. -/
def entropyOf (l : Fin 21 → ℝ) : ℝ := (Real.log (total l) - (∑ j, Real.exp (l j) * l j) / total l) / Real.log 21

theorem total_pos (l : Fin 21 → ℝ) : 0 < total l :=
  Finset.sum_pos (fun j _ => Real.exp_pos _) ⟨0, Finset.mem_univ _⟩

theorem selected_pos (l : Fin 21 → ℝ) (k : Fin 21) : 0 < selected l k := div_pos (Real.exp_pos _) (total_pos l)

theorem log21_ne : Real.log 21 ≠ 0 := (Real.log_pos (by norm_num)).ne'

/-- Division of reals, the divisor not zero. -/
theorem div_real (x : ℝ) {y : ℝ} (h : y ≠ 0) : Ideal.div (x : EReal) (y : EReal) = ((x / y : ℝ) : EReal) := by
  rw [Ideal.div_coe h, ← EReal.coe_mul, mul_one_div]

/-- The logarithm of a positive real. -/
theorem log_real {x : ℝ} (h : 0 < x) : Ideal.log (x : EReal) = (Real.log x : EReal) := by
  rw [Ideal.log_coe, if_neg (not_le.2 h)]

/-! ## The reference's row -/

/-- The softmax does not see a shift of all logits by the same real `M`. -/
theorem ref_prob (l : Fin 21 → ℝ) (M : ℝ) (k : Fin 21) :
    Ideal.div (Ideal.exp ((l k : EReal) - (M : EReal))) (∑ j, Ideal.exp ((l j : EReal) - (M : EReal))) = (selected l k : EReal) := by
  have he : ∀ j, Ideal.exp ((l j : EReal) - (M : EReal)) = ((Real.exp (l j) * Real.exp (-M) : ℝ) : EReal) := fun j => by
    rw [← EReal.coe_sub, Ideal.exp_coe, sub_eq_add_neg, Real.exp_add]
  simp only [he]
  have ht : (∑ j, Real.exp (l j)) ≠ 0 := (total_pos l).ne'
  rw [← coe_sum, ← Finset.sum_mul, div_real _ (mul_ne_zero ht (Real.exp_ne_zero _))]
  congr 1
  exact mul_div_mul_right _ _ (Real.exp_ne_zero _)

/-- The entropy of the softmax, summed out. -/
theorem ref_entropy (l : Fin 21 → ℝ) :
    Ideal.div (-∑ j, (selected l j : EReal) * Ideal.log (selected l j : EReal)) (Ideal.log ((21 : ℝ) : EReal)) = (entropyOf l : EReal) := by
  have ht := (total_pos l).ne'
  simp only [log_real (selected_pos l _), ← EReal.coe_mul]
  rw [← coe_sum, log_real (by norm_num), ← EReal.coe_neg, div_real _ log21_ne]
  congr 2
  have h1 : ∑ j, selected l j = 1 := by
    unfold selected
    rw [← Finset.sum_div]
    exact div_self ht
  have h2 : ∀ j, selected l j * Real.log (selected l j) = Real.exp (l j) * l j / total l - selected l j * Real.log (total l) := fun j => by
    have : Real.log (selected l j) = l j - Real.log (total l) := by
      unfold selected
      rw [Real.log_div (Real.exp_ne_zero _) ht, Real.log_exp]
    rw [this, mul_sub]
    congr 1
    unfold selected
    ring
  rw [Finset.sum_congr rfl fun j _ => h2 j, Finset.sum_sub_distrib, ← Finset.sum_mul, h1, ← Finset.sum_div]
  ring

/-! ## The kernel's padded row -/

/-- The 21 logits over 24 rows, the three spare rows at minus infinity. -/
def padded (l : Fin 21 → ℝ) (r : Fin 24) : EReal := if h : r.val < 21 then (l ⟨r.val, h⟩ : EReal) else ⊥

/-- A sum over 24 rows whose three spare ones are zero. -/
theorem sum_padded (g : Fin 24 → EReal) (f : Fin 21 → ℝ) (hg : ∀ j : Fin 21, g ⟨j.val, by omega⟩ = (f j : EReal))
    (h0 : ∀ r : Fin 24, 21 ≤ r.val → g r = 0) : ∑ r, g r = ((∑ j, f j : ℝ) : EReal) := by
  rw [coe_sum, show (∑ r, g r) = ∑ r : Fin (21 + 3), g r from rfl, Fin.sum_univ_add,
    Finset.sum_eq_zero (s := Finset.univ) (f := fun i : Fin 3 => g (Fin.natAdd 21 i)) (fun i _ => h0 _ (Nat.le_add_right _ _)), add_zero]
  exact Finset.sum_congr rfl fun j _ => hg j

theorem padded_lt (l : Fin 21 → ℝ) (j : Fin 21) : padded l ⟨j.val, by omega⟩ = (l j : EReal) := dif_pos j.isLt
theorem padded_ge (l : Fin 21 → ℝ) (r : Fin 24) (h : 21 ≤ r.val) : padded l r = ⊥ := dif_neg (by omega)

theorem ker_total (l : Fin 21 → ℝ) : ∑ r, Ideal.exp (padded l r) = (total l : EReal) :=
  sum_padded _ _ (fun j => by rw [padded_lt, Ideal.exp_coe]) (fun r h => by rw [padded_ge l r h, Ideal.exp_bot])

theorem ker_weighted (l : Fin 21 → ℝ) : ∑ r, Ideal.exp (padded l r) * padded l r = ((∑ j, Real.exp (l j) * l j : ℝ) : EReal) :=
  sum_padded _ _ (fun j => by rw [padded_lt, Ideal.exp_coe, ← EReal.coe_mul])
    (fun r h => by rw [padded_ge l r h, Ideal.exp_bot, zero_mul])

/-- The kernel's entropy. -/
theorem ker_entropy (l : Fin 21 → ℝ) :
    (Ideal.log (∑ r, Ideal.exp (padded l r)) - (∑ r, Ideal.exp (padded l r) * padded l r) * Ideal.div 1 (∑ r, Ideal.exp (padded l r)))
      * Ideal.div 1 (Ideal.log ((21 : ℝ) : EReal)) = (entropyOf l : EReal) := by
  rw [ker_total, ker_weighted, log_real (total_pos l), log_real (by norm_num), ← EReal.coe_one, div_real _ (total_pos l).ne',
    div_real _ log21_ne, ← EReal.coe_mul, ← EReal.coe_sub, ← EReal.coe_mul]
  congr 1
  unfold entropyOf
  ring

/-! ## The thresholds -/

/-- Column `k` is the first of the least distances. -/
def Nearest (v : Fin 21 → ℝ) (a : ℝ) (k : Fin 21) : Prop :=
  (∀ j, j < k → |a - v k| < |a - v j|) ∧ ∀ j, k < j → |a - v k| ≤ |a - v j|

/-- Row `r`'s lower bound on the doubled action: none for row 0, the sum of the two action values beside it for rows 1
    to 20, never met from row 21. -/
def lower (v : Fin 21 → ℝ) (r : Fin 24) : EReal :=
  if r.val = 0 then ⊥ else if h : r.val < 21 then ((v ⟨r.val - 1, by omega⟩ + v ⟨r.val, h⟩ : ℝ) : EReal) else ⊤

/-- Row `r`'s upper bound: the sum of its action value and the next for rows 0 to 19, none from row 20. -/
def upper (v : Fin 21 → ℝ) (r : Fin 24) : EReal :=
  if h : r.val < 20 then ((v ⟨r.val, by omega⟩ + v ⟨r.val + 1, by omega⟩ : ℝ) : EReal) else ⊤

/-- A nearer value that is lower: the doubled action is at most the two values' sum. -/
theorem le_of_dist_le {a x y : ℝ} (hxy : x < y) (h : |a - x| ≤ |a - y|) : a + a ≤ x + y := by
  have := sq_le_sq.2 h
  nlinarith

/-- A strictly nearer value that is higher: the doubled action is above the two values' sum. -/
theorem lt_of_dist_lt {a x y : ℝ} (hxy : x < y) (h : |a - y| < |a - x|) : x + y < a + a := by
  have := sq_lt_sq.2 h
  nlinarith

/-- The rows up to `k` are above their lower bound, -/
theorem lower_lt {v : Fin 21 → ℝ} (hv : StrictMono v) {a : ℝ} {k : Fin 21} (hk : Nearest v a k) (r : Fin 21) (h : r ≤ k) :
    lower v ⟨r.val, by omega⟩ < ((a + a : ℝ) : EReal) := by
  unfold lower
  by_cases h0 : r.val = 0
  · rw [if_pos h0]; exact EReal.bot_lt_coe _
  · rw [if_neg h0, dif_pos r.isLt, EReal.coe_lt_coe_iff]
    have hk0 : (⟨k.val - 1, by omega⟩ : Fin 21) < k := Fin.lt_def.2 (by have := Fin.le_def.1 h; show k.val - 1 < k.val; omega)
    have h1 := lt_of_dist_lt (hv hk0) (hk.1 _ hk0)
    have h2 : v r ≤ v k := hv.monotone h
    have h3 : v ⟨r.val - 1, by omega⟩ ≤ v ⟨k.val - 1, by omega⟩ := hv.monotone (Fin.le_def.2 (by have := Fin.le_def.1 h; show r.val - 1 ≤ k.val - 1; omega))
    exact lt_of_le_of_lt (add_le_add h3 h2) h1

/-- those past `k` are not; -/
theorem not_lower_lt {v : Fin 21 → ℝ} (hv : StrictMono v) {a : ℝ} {k : Fin 21} (hk : Nearest v a k) (r : Fin 21) (h : k < r) :
    ¬ lower v ⟨r.val, by omega⟩ < ((a + a : ℝ) : EReal) := by
  have hlt := Fin.lt_def.1 h
  unfold lower
  rw [if_neg (show ¬ r.val = 0 by omega), dif_pos r.isLt, EReal.coe_lt_coe_iff, not_lt]
  have hk1 : k < (⟨k.val + 1, by omega⟩ : Fin 21) := Fin.lt_def.2 (Nat.lt_succ_self _)
  have h1 := le_of_dist_le (hv hk1) (hk.2 _ hk1)
  have h2 : v ⟨k.val + 1, by omega⟩ ≤ v r := hv.monotone (Fin.le_def.2 hlt)
  have h3 : v k ≤ v ⟨r.val - 1, by omega⟩ := hv.monotone (Fin.le_def.2 (by show k.val ≤ r.val - 1; omega))
  exact h1.trans (add_le_add h3 h2)

/-- A row's upper bound is the next row's lower bound; the last row has none. -/
theorem upper_eq (v : Fin 21 → ℝ) (r : Fin 24) (h : r.val < 20) : upper v r = lower v ⟨r.val + 1, by omega⟩ := by
  unfold upper lower
  rw [dif_pos h, if_neg (Nat.succ_ne_zero _), dif_pos (show r.val + 1 < 21 by omega)]
  rfl

/-- The rows below `k` are above their upper bound, -/
theorem upper_lt {v : Fin 21 → ℝ} (hv : StrictMono v) {a : ℝ} {k : Fin 21} (hk : Nearest v a k) (r : Fin 21) (h : r < k) :
    upper v ⟨r.val, by omega⟩ < ((a + a : ℝ) : EReal) := by
  have hlt := Fin.lt_def.1 h
  rw [upper_eq v _ (show r.val < 20 by omega)]
  exact lower_lt hv hk ⟨r.val + 1, by omega⟩ (Fin.le_def.2 hlt)

/-- those from `k` on are not. -/
theorem not_upper_lt {v : Fin 21 → ℝ} (hv : StrictMono v) {a : ℝ} {k : Fin 21} (hk : Nearest v a k) (r : Fin 21) (h : k ≤ r) :
    ¬ upper v ⟨r.val, by omega⟩ < ((a + a : ℝ) : EReal) := by
  by_cases hr : r.val < 20
  · rw [upper_eq v _ hr]
    exact not_lower_lt hv hk ⟨r.val + 1, by omega⟩ (Fin.lt_def.2 (Nat.lt_succ_of_le (Fin.le_def.1 h)))
  · unfold upper
    rw [dif_neg hr]
    exact not_top_lt

/-- What the kernel's two masks leave of row `r`'s exponential. -/
def hot (v l : Fin 21 → ℝ) (a : ℝ) (r : Fin 24) : EReal :=
  (if lower v r < ((a + a : ℝ) : EReal) then Ideal.exp (padded l r) else 0)
    - (if upper v r < ((a + a : ℝ) : EReal) then Ideal.exp (padded l r) else 0)

/-- The two masks leave column `k`'s exponential and nothing else. -/
theorem ker_hot (v l : Fin 21 → ℝ) (hv : StrictMono v) (a : ℝ) (k : Fin 21) (hk : Nearest v a k) :
    ∑ r, hot v l a r = (Real.exp (l k) : EReal) := by
  rw [sum_padded _ (fun j => if j = k then Real.exp (l j) else 0) (fun j => ?_) (fun r h => ?_)]
  · rw [Finset.sum_ite_eq' Finset.univ k fun j => Real.exp (l j), if_pos (Finset.mem_univ _)]
  · show hot v l a ⟨j.val, _⟩ = _
    unfold hot
    rw [padded_lt, Ideal.exp_coe]
    rcases lt_trichotomy j k with h | h | h
    · rw [if_pos (lower_lt hv hk j h.le), if_pos (upper_lt hv hk j h), if_neg h.ne, ← EReal.coe_sub, sub_self]
    · rw [if_pos (lower_lt hv hk j h.le), if_neg (not_upper_lt hv hk j h.ge), if_pos h, sub_zero]
    · rw [if_neg (not_lower_lt hv hk j h), if_neg (not_upper_lt hv hk j h.le), if_neg h.ne', sub_zero, EReal.coe_zero]
  · unfold hot
    rw [padded_ge l r h, Ideal.exp_bot, ite_self, ite_self, sub_zero]

/-- The kernel's selected probability. -/
theorem ker_selected (v l : Fin 21 → ℝ) (hv : StrictMono v) (a : ℝ) (k : Fin 21) (hk : Nearest v a k) :
    (∑ r, hot v l a r) * Ideal.div 1 (∑ r, Ideal.exp (padded l r)) = (selected l k : EReal) := by
  rw [ker_hot v l hv a k hk, ker_total, ← EReal.coe_one, div_real _ (total_pos l).ne', ← EReal.coe_mul, mul_one_div]
  rfl

end Cert.Proof.Row

end
-- ==== Proof.RefRun.lean ====
/-
  What the reference program leaves behind. It is a straight line of host operations (the two calls it makes, `argmin` and
  `take_along_axis`, read in place), so its run is the operations' results folded over the starting memory. The two
  results are named here as functions of the five argument arrays: `selR` (the selected probability of each row) and
  `entR` (the entropy of each row over log 21), built from the logits `logits`, their softmax `probs`, the distances
  `dists` and the index `nearest` of the least distance.
-/
module

public import proofs.«01_k».proof.Proof.Gen.ReferenceIdeal
public import Idealize.ShloMosaic.Lib.StableHlo.Run

@[expose] public section

set_option maxRecDepth 16384

noncomputable section

namespace Cert.Proof.RefRun

open Cert.ReferenceIdeal Cert.ReferenceIdeal.Facts₀
open Idealize.ShloMosaic Idealize.ShloMosaic.TcCoe Idealize.ShloMosaic.StableHlo Idealize.SL.Sem

variable {F : FTy → Type} [FloatOps F]

/-- The operations in stages: the logits, the probabilities and the distances. -/
abbrev opsA : List (HloOp τ sig (Elt F)) :=
  [ unary main_arg2 main_v0 ((transpose S128x21 [1, 0] · transposes_S21x128_S128x21_1_0) : (⟨S21x128, .f32⟩ : BufTy).Contents (Elt F) → (⟨S128x21, .f32⟩ : BufTy).Contents (Elt F)),
    binary main_arg0 main_v0 main_v1 ((fun l r => Host.dotGeneral dot_S524288x128_S128x21_S524288x21_1_0_0_1_n_n none l r) : (⟨S524288x128, .f32⟩ : BufTy).Contents (Elt F) → (⟨S128x21, .f32⟩ : BufTy).Contents (Elt F) → (⟨S524288x21, .f32⟩ : BufTy).Contents (Elt F)),
    unary main_arg3 main_v2 (broadcastInDim S1x21 ![1] bcast_S21_S1x21_1 : (⟨S21, .f32⟩ : BufTy).Contents (Elt F) → (⟨S1x21, .f32⟩ : BufTy).Contents (Elt F)),
    unary main_v2 main_v3 (broadcastInDim S524288x21 ![0, 1] bcast_S1x21_S524288x21_0_1 : (⟨S1x21, .f32⟩ : BufTy).Contents (Elt F) → (⟨S524288x21, .f32⟩ : BufTy).Contents (Elt F)),
    binary main_v1 main_v3 main_v4 (addf : (⟨S524288x21, .f32⟩ : BufTy).Contents (Elt F) → (⟨S524288x21, .f32⟩ : BufTy).Contents (Elt F) → (⟨S524288x21, .f32⟩ : BufTy).Contents (Elt F)),
    nullary main_cst (constant S_ .f32 0xFF800000#32),
    binary main_v4 main_cst main_v5 ((fun x v => Host.reduce FloatOps.maximumf x v reducesTo_S524288x21_S524288_d1 h_S_) : (⟨S524288x21, .f32⟩ : BufTy).Contents (Elt F) → (⟨S_, .f32⟩ : BufTy).Contents (Elt F) → (⟨S524288, .f32⟩ : BufTy).Contents (Elt F)),
    nullary main_cst_0 (constant S_ .f32 0xFF800000#32),
    unary main_cst_0 main_v6 (broadcastInDim S524288 ![] bcast_S_S524288 : (⟨S_, .f32⟩ : BufTy).Contents (Elt F) → (⟨S524288, .f32⟩ : BufTy).Contents (Elt F)),
    binary main_v6 main_v5 main_v7 (maximumf : (⟨S524288, .f32⟩ : BufTy).Contents (Elt F) → (⟨S524288, .f32⟩ : BufTy).Contents (Elt F) → (⟨S524288, .f32⟩ : BufTy).Contents (Elt F)),
    unary main_v7 main_v8 (broadcastInDim S524288x1 ![0] bcast_S524288_S524288x1_0 : (⟨S524288, .f32⟩ : BufTy).Contents (Elt F) → (⟨S524288x1, .f32⟩ : BufTy).Contents (Elt F)),
    unary main_v8 main_v9 (broadcastInDim S524288x21 ![0, 1] bcast_S524288x1_S524288x21_0_1 : (⟨S524288x1, .f32⟩ : BufTy).Contents (Elt F) → (⟨S524288x21, .f32⟩ : BufTy).Contents (Elt F)),
    binary main_v4 main_v9 main_v10 (subf : (⟨S524288x21, .f32⟩ : BufTy).Contents (Elt F) → (⟨S524288x21, .f32⟩ : BufTy).Contents (Elt F) → (⟨S524288x21, .f32⟩ : BufTy).Contents (Elt F)),
    unary main_v10 main_v11 (Host.exp : (⟨S524288x21, .f32⟩ : BufTy).Contents (Elt F) → (⟨S524288x21, .f32⟩ : BufTy).Contents (Elt F)),
    nullary main_cst_1 (constant S_ .f32 0x00000000#32),
    binary main_v11 main_cst_1 main_v12 ((fun x v => Host.reduceAdd x v reducesTo_S524288x21_S524288_d1 h_S_) : (⟨S524288x21, .f32⟩ : BufTy).Contents (Elt F) → (⟨S_, .f32⟩ : BufTy).Contents (Elt F) → (⟨S524288, .f32⟩ : BufTy).Contents (Elt F)),
    unary main_v12 main_v13 (broadcastInDim S524288x1 ![0] bcast_S524288_S524288x1_0 : (⟨S524288, .f32⟩ : BufTy).Contents (Elt F) → (⟨S524288x1, .f32⟩ : BufTy).Contents (Elt F)),
    unary main_v13 main_v14 (broadcastInDim S524288x21 ![0, 1] bcast_S524288x1_S524288x21_0_1 : (⟨S524288x1, .f32⟩ : BufTy).Contents (Elt F) → (⟨S524288x21, .f32⟩ : BufTy).Contents (Elt F)),
    binary main_v11 main_v14 main_v15 (Host.divf : (⟨S524288x21, .f32⟩ : BufTy).Contents (Elt F) → (⟨S524288x21, .f32⟩ : BufTy).Contents (Elt F) → (⟨S524288x21, .f32⟩ : BufTy).Contents (Elt F)),
    unary main_arg1 main_v16 (broadcastInDim S524288x1 ![0] bcast_S524288_S524288x1_0 : (⟨S524288, .f32⟩ : BufTy).Contents (Elt F) → (⟨S524288x1, .f32⟩ : BufTy).Contents (Elt F)),
    unary main_arg4 main_v17 (broadcastInDim S1x21 ![1] bcast_S21_S1x21_1 : (⟨S21, .f32⟩ : BufTy).Contents (Elt F) → (⟨S1x21, .f32⟩ : BufTy).Contents (Elt F)),
    unary main_v16 main_v18 (broadcastInDim S524288x21 ![0, 1] bcast_S524288x1_S524288x21_0_1 : (⟨S524288x1, .f32⟩ : BufTy).Contents (Elt F) → (⟨S524288x21, .f32⟩ : BufTy).Contents (Elt F)),
    unary main_v17 main_v19 (broadcastInDim S524288x21 ![0, 1] bcast_S1x21_S524288x21_0_1 : (⟨S1x21, .f32⟩ : BufTy).Contents (Elt F) → (⟨S524288x21, .f32⟩ : BufTy).Contents (Elt F)),
    binary main_v18 main_v19 main_v20 (subf : (⟨S524288x21, .f32⟩ : BufTy).Contents (Elt F) → (⟨S524288x21, .f32⟩ : BufTy).Contents (Elt F) → (⟨S524288x21, .f32⟩ : BufTy).Contents (Elt F)),
    unary main_v20 main_v21 (Host.absf : (⟨S524288x21, .f32⟩ : BufTy).Contents (Elt F) → (⟨S524288x21, .f32⟩ : BufTy).Contents (Elt F)) ]

/-- The operations in stages: the call of `argmin`. -/
abbrev opsB : List (HloOp τ sig (Elt F)) :=
  [ TRef.nullary (.of main_call0_v0 : TRef sig ⟨S524288x21, .i32⟩) (iotaInDim S524288x21 32 1),
    TRef.nullary (.of main_call0_cst : TRef sig ⟨S_, .f32⟩) (constant S_ .f32 0x7F800000#32),
    TRef.nullary (.of main_call0_c : TRef sig ⟨S_, .i32⟩) (constantI S_ 32 0#32),
    TRef.quaternary (.of main_v21 : TRef sig ⟨S524288x21, .f32⟩) (.of main_call0_v0 : TRef sig ⟨S524288x21, .i32⟩) (.of main_call0_cst : TRef sig ⟨S_, .f32⟩) (.of main_call0_c : TRef sig ⟨S_, .i32⟩) (.of main_call0_v1_0 : TRef sig ⟨S524288, .f32⟩) (fun x y u v j => (Host.argReduce reducer_argmin_f32_i32 x y u v reducesTo_S524288x21_S524288_d1 h_S_ j).1),
    TRef.quaternary (.of main_v21 : TRef sig ⟨S524288x21, .f32⟩) (.of main_call0_v0 : TRef sig ⟨S524288x21, .i32⟩) (.of main_call0_cst : TRef sig ⟨S_, .f32⟩) (.of main_call0_c : TRef sig ⟨S_, .i32⟩) (.of main_v22 : TRef sig ⟨S524288, .i32⟩) (fun x y u v j => (Host.argReduce reducer_argmin_f32_i32 x y u v reducesTo_S524288x21_S524288_d1 h_S_ j).2) ]

/-- The operations in stages: the entropy, and the index as a column. -/
abbrev opsC : List (HloOp τ sig (Elt F)) :=
  [ unary main_v15 main_v23 (Host.log : (⟨S524288x21, .f32⟩ : BufTy).Contents (Elt F) → (⟨S524288x21, .f32⟩ : BufTy).Contents (Elt F)),
    binary main_v15 main_v23 main_v24 (mulf : (⟨S524288x21, .f32⟩ : BufTy).Contents (Elt F) → (⟨S524288x21, .f32⟩ : BufTy).Contents (Elt F) → (⟨S524288x21, .f32⟩ : BufTy).Contents (Elt F)),
    nullary main_cst_2 (constant S_ .f32 0x00000000#32),
    binary main_v24 main_cst_2 main_v25 ((fun x v => Host.reduceAdd x v reducesTo_S524288x21_S524288_d1 h_S_) : (⟨S524288x21, .f32⟩ : BufTy).Contents (Elt F) → (⟨S_, .f32⟩ : BufTy).Contents (Elt F) → (⟨S524288, .f32⟩ : BufTy).Contents (Elt F)),
    unary main_v25 main_v26 (Host.negf : (⟨S524288, .f32⟩ : BufTy).Contents (Elt F) → (⟨S524288, .f32⟩ : BufTy).Contents (Elt F)),
    nullary main_cst_3 (constant S_ .f32 0x41A80000#32),
    unary main_cst_3 main_v27 (Host.log : (⟨S_, .f32⟩ : BufTy).Contents (Elt F) → (⟨S_, .f32⟩ : BufTy).Contents (Elt F)),
    unary main_v27 main_v28 (broadcastInDim S524288 ![] bcast_S_S524288 : (⟨S_, .f32⟩ : BufTy).Contents (Elt F) → (⟨S524288, .f32⟩ : BufTy).Contents (Elt F)),
    binary main_v26 main_v28 main_v29 (Host.divf : (⟨S524288, .f32⟩ : BufTy).Contents (Elt F) → (⟨S524288, .f32⟩ : BufTy).Contents (Elt F) → (⟨S524288, .f32⟩ : BufTy).Contents (Elt F)),
    unary main_v22 main_v30 (broadcastInDim S524288x1 ![0] bcast_S524288_S524288x1_0 : (⟨S524288, .i32⟩ : BufTy).Contents (Elt F) → (⟨S524288x1, .i32⟩ : BufTy).Contents (Elt F)) ]

/-- The operations in stages: the call of `take_along_axis`: the index it reads by. -/
abbrev opsD : List (HloOp τ sig (Elt F)) :=
  [ TRef.nullary (.of main_call1_c : TRef sig ⟨S_, .i32⟩) (constantI S_ 32 0#32),
    TRef.unary (.of main_call1_c : TRef sig ⟨S_, .i32⟩) (.of main_call1_v0 : TRef sig ⟨S524288x1, .i32⟩) (broadcastInDim S524288x1 ![] bcast_S_S524288x1),
    TRef.binary (.of main_v30 : TRef sig ⟨S524288x1, .i32⟩) (.of main_call1_v0 : TRef sig ⟨S524288x1, .i32⟩) (.of main_call1_v1 : TRef sig ⟨S524288x1, .i1⟩) (cmpi .slt),
    TRef.nullary (.of main_call1_c_0 : TRef sig ⟨S_, .i32⟩) (constantI S_ 32 21#32),
    TRef.unary (.of main_call1_c_0 : TRef sig ⟨S_, .i32⟩) (.of main_call1_v2 : TRef sig ⟨S524288x1, .i32⟩) (broadcastInDim S524288x1 ![] bcast_S_S524288x1),
    TRef.binary (.of main_v30 : TRef sig ⟨S524288x1, .i32⟩) (.of main_call1_v2 : TRef sig ⟨S524288x1, .i32⟩) (.of main_call1_v3 : TRef sig ⟨S524288x1, .i32⟩) addi,
    TRef.ternary (.of main_call1_v1 : TRef sig ⟨S524288x1, .i1⟩) (.of main_call1_v3 : TRef sig ⟨S524288x1, .i32⟩) (.of main_v30 : TRef sig ⟨S524288x1, .i32⟩) (.of main_call1_v4 : TRef sig ⟨S524288x1, .i32⟩) select,
    TRef.reshape (.of main_call1_v4 : TRef sig ⟨S524288x1, .i32⟩) (.of main_call1_v5 : TRef sig ⟨S524288x1x1, .i32⟩) (rfl : (.i32 : EltTy) = .i32) shapeCasts_S524288x1_S524288x1x1 ]

/-- The operations in stages: whether the index is inside. -/
abbrev opsE : List (HloOp τ sig (Elt F)) :=
  [ TRef.nullary (.of main_call1_c_1 : TRef sig ⟨S1, .i32⟩) (constantI S1 32 20#32),
    TRef.nullary (.of main_call1_c_2 : TRef sig ⟨S_, .i32⟩) (constantI S_ 32 0#32),
    TRef.unary (.of main_call1_c_2 : TRef sig ⟨S_, .i32⟩) (.of main_call1_v6 : TRef sig ⟨S524288x1x1, .i32⟩) (broadcastInDim S524288x1x1 ![] bcast_S_S524288x1x1),
    TRef.binary (.of main_call1_v5 : TRef sig ⟨S524288x1x1, .i32⟩) (.of main_call1_v6 : TRef sig ⟨S524288x1x1, .i32⟩) (.of main_call1_v7 : TRef sig ⟨S524288x1x1, .i1⟩) (cmpi .sge),
    TRef.unary (.of main_call1_c_1 : TRef sig ⟨S1, .i32⟩) (.of main_call1_v8 : TRef sig ⟨S1x1x1, .i32⟩) (broadcastInDim S1x1x1 ![2] bcast_S1_S1x1x1_2),
    TRef.unary (.of main_call1_v8 : TRef sig ⟨S1x1x1, .i32⟩) (.of main_call1_v9 : TRef sig ⟨S524288x1x1, .i32⟩) (broadcastInDim S524288x1x1 ![0, 1, 2] bcast_S1x1x1_S524288x1x1_0_1_2),
    TRef.binary (.of main_call1_v5 : TRef sig ⟨S524288x1x1, .i32⟩) (.of main_call1_v9 : TRef sig ⟨S524288x1x1, .i32⟩) (.of main_call1_v10 : TRef sig ⟨S524288x1x1, .i1⟩) (cmpi .sle),
    TRef.binary (.of main_call1_v7 : TRef sig ⟨S524288x1x1, .i1⟩) (.of main_call1_v10 : TRef sig ⟨S524288x1x1, .i1⟩) (.of main_call1_v11 : TRef sig ⟨S524288x1x1, .i1⟩) andi,
    TRef.nullary (.of main_call1_c_3 : TRef sig ⟨S_, .i1⟩) (constantI S_ 1 1#1),
    TRef.binary (.of main_call1_v11 : TRef sig ⟨S524288x1x1, .i1⟩) (.of main_call1_c_3 : TRef sig ⟨S_, .i1⟩) (.of main_call1_v12 : TRef sig ⟨S524288x1, .i1⟩) (fun x v => Host.reduce IntOp.andi x v reducesTo_S524288x1x1_S524288x1_d2 h_S_) ]

/-- The operations in stages: the entries read. -/
abbrev opsF : List (HloOp τ sig (Elt F)) :=
  [ TRef.binary (.of main_v15 : TRef sig ⟨S524288x21, .f32⟩) (.of main_call1_v5 : TRef sig ⟨S524288x1x1, .i32⟩) (.of main_call1_v13 : TRef sig ⟨S524288x1, .f32⟩) (fun x i => Host.gather gather_S524288x21_S524288x1x1_S524288x1_n_1_0_0_1_2_11 x i),
    TRef.nullary (.of main_call1_cst : TRef sig ⟨S_, .f32⟩) (constant S_ .f32 0x7FC00000#32),
    TRef.unary (.of main_call1_cst : TRef sig ⟨S_, .f32⟩) (.of main_call1_v14 : TRef sig ⟨S524288x1, .f32⟩) (broadcastInDim S524288x1 ![] bcast_S_S524288x1),
    TRef.ternary (.of main_call1_v12 : TRef sig ⟨S524288x1, .i1⟩) (.of main_call1_v13 : TRef sig ⟨S524288x1, .f32⟩) (.of main_call1_v14 : TRef sig ⟨S524288x1, .f32⟩) (.of main_v31 : TRef sig ⟨S524288x1, .f32⟩) select,
    reshape main_v31 main_v32 (rfl : (.f32 : EltTy) = .f32) shapeCasts_S524288x1_S524288 ]

/-- The program's operations, in order. -/
abbrev ops : List (HloOp τ sig (Elt F)) := opsA ++ opsB ++ opsC ++ opsD ++ opsE ++ opsF

/-- The program is that straight line. -/
theorem main_eq (c : Dev nD) : main (F := F) c = seq ops := rfl

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches the core's own references only. -/
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., unary_bufs_sub .., unary_bufs_sub ..,
    unary_bufs_sub .., unary_bufs_sub .., binary_bufs_sub .., unary_bufs_sub .., nullary_bufs_sub .., nullary_bufs_sub .., nullary_bufs_sub ..,
    quaternary_bufs_sub .., quaternary_bufs_sub .., unary_bufs_sub .., binary_bufs_sub .., nullary_bufs_sub .., binary_bufs_sub .., unary_bufs_sub ..,
    nullary_bufs_sub .., unary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., reshape_bufs_sub .., nullary_bufs_sub ..,
    nullary_bufs_sub .., unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub .., reshape_bufs_sub ..⟩

/-! ## The values -/

/-- A row's logits: the row of `x` against the weight rows, plus the bias. -/
def logits (x : FVec F S524288x128 .f32) (W : FVec F S21x128 .f32) (b : FVec F S21 .f32) : FVec F S524288x21 .f32 :=
  addf (Host.dotGeneral dot_S524288x128_S128x21_S524288x21_1_0_0_1_n_n none x (transpose S128x21 [1, 0] W transposes_S21x128_S128x21_1_0))
    (broadcastInDim S524288x21 ![0, 1] bcast_S1x21_S524288x21_0_1 (broadcastInDim S1x21 ![1] bcast_S21_S1x21_1 b))

/-- A column of row values, laid over the 21 columns. -/
def spread (v : FVec F S524288 .f32) : FVec F S524288x21 .f32 :=
  broadcastInDim S524288x21 ![0, 1] bcast_S524288x1_S524288x21_0_1 (broadcastInDim S524288x1 ![0] bcast_S524288_S524288x1_0 v)

/-- The exponentials of the logits, each row less its largest logit. -/
def exps (l : FVec F S524288x21 .f32) : FVec F S524288x21 .f32 :=
  Host.exp (subf l (spread (maximumf (broadcastInDim S524288 ![] bcast_S_S524288 (constant S_ .f32 0xFF800000#32))
    (Host.reduce FloatOps.maximumf l (constant S_ .f32 0xFF800000#32) reducesTo_S524288x21_S524288_d1 h_S_))))

/-- The softmax of exponentials: each over its row's sum. -/
def normed (e : FVec F S524288x21 .f32) : FVec F S524288x21 .f32 :=
  Host.divf e (spread (Host.reduceAdd e (constant S_ .f32 0x00000000#32) reducesTo_S524288x21_S524288_d1 h_S_))

/-- The probabilities. -/
def probs (x : FVec F S524288x128 .f32) (W : FVec F S21x128 .f32) (b : FVec F S21 .f32) : FVec F S524288x21 .f32 :=
  normed (exps (logits x W b))

/-- The distance of each action from each of the 21 action values. -/
def dists (a : FVec F S524288 .f32) (v : FVec F S21 .f32) : FVec F S524288x21 .f32 :=
  Host.absf (subf (spread a) (broadcastInDim S524288x21 ![0, 1] bcast_S1x21_S524288x21_0_1 (broadcastInDim S1x21 ![1] bcast_S21_S1x21_1 v)))

/-- The column of each row's least distance. -/
def nearest (d : FVec F S524288x21 .f32) : IVec S524288 32 :=
  fun j => (Host.argReduce reducer_argmin_f32_i32 d (iotaInDim S524288x21 32 1) (constant S_ .f32 0x7F800000#32) (constantI S_ 32 0#32)
    reducesTo_S524288x21_S524288_d1 h_S_ j).2

/-- The index column `take_along_axis` reads by: a negative index counted from the end. -/
def wrapped (i : IVec S524288x1 32) : IVec S524288x1x1 32 :=
  shapeCast S524288x1x1 (select (cmpi .slt i (broadcastInDim S524288x1 ![] bcast_S_S524288x1 (constantI S_ 32 0#32)))
    (addi i (broadcastInDim S524288x1 ![] bcast_S_S524288x1 (constantI S_ 32 21#32))) i) shapeCasts_S524288x1_S524288x1x1

/-- Whether an index names one of the 21 columns. -/
def inside (k : IVec S524288x1x1 32) : IVec S524288x1 1 :=
  Host.reduce IntOp.andi
    (andi (cmpi .sge k (broadcastInDim S524288x1x1 ![] bcast_S_S524288x1x1 (constantI S_ 32 0#32)))
      (cmpi .sle k (broadcastInDim S524288x1x1 ![0, 1, 2] bcast_S1x1x1_S524288x1x1_0_1_2
        (broadcastInDim S1x1x1 ![2] bcast_S1_S1x1x1_2 (constantI S1 32 20#32)))))
    (constantI S_ 1 1#1) reducesTo_S524288x1x1_S524288x1_d2 h_S_

/-- One entry of each row, by index, where the index is inside. -/
def pick (c : IVec S524288x1 1) (p : FVec F S524288x21 .f32) (k : IVec S524288x1x1 32) : FVec F S524288 .f32 :=
  shapeCast S524288 (select c (Host.gather gather_S524288x21_S524288x1x1_S524288x1_n_1_0_0_1_2_11 p k)
    (broadcastInDim S524288x1 ![] bcast_S_S524288x1 (constant S_ .f32 0x7FC00000#32))) shapeCasts_S524288x1_S524288

/-- The index column of a vector of indices. -/
def column (i : IVec S524288 32) : IVec S524288x1x1 32 := wrapped (broadcastInDim S524288x1 ![0] bcast_S524288_S524288x1_0 i)

/-- The selected probabilities. -/
def selR (x : FVec F S524288x128 .f32) (a : FVec F S524288 .f32) (W : FVec F S21x128 .f32) (b v : FVec F S21 .f32) : FVec F S524288 .f32 :=
  pick (inside (column (nearest (dists a v)))) (probs x W b) (column (nearest (dists a v)))

/-- The entropies over log 21. -/
def entropy (p : FVec F S524288x21 .f32) : FVec F S524288 .f32 :=
  Host.divf (Host.negf (Host.reduceAdd (mulf p (Host.log p)) (constant S_ .f32 0x00000000#32) reducesTo_S524288x21_S524288_d1 h_S_))
    (broadcastInDim S524288 ![] bcast_S_S524288 (Host.log (constant S_ .f32 0x41A80000#32)))

def entR (x : FVec F S524288x128 .f32) (W : FVec F S21x128 .f32) (b : FVec F S21 .f32) : FVec F S524288 .f32 :=
  entropy (probs x W b)

/-! ## The operations' results at the results and the arguments -/

theorem A_probs (V : Valuation τ sig (Elt F)) :
    after opsA V (main_v15 : DevRef τ sig) = probs (V (main_arg0 : DevRef τ sig)) (V (main_arg2 : DevRef τ sig)) (V (main_arg3 : DevRef τ sig)) := by
  after_results
  rfl

theorem A_dists (V : Valuation τ sig (Elt F)) :
    after opsA V (main_v21 : DevRef τ sig) = dists (V (main_arg1 : DevRef τ sig)) (V (main_arg4 : DevRef τ sig)) := by
  after_results
  rfl

theorem B_nearest (V : Valuation τ sig (Elt F)) :
    after opsB V (main_v22 : DevRef τ sig) = nearest (V (main_v21 : DevRef τ sig)) := by
  after_results
  rfl

theorem B_probs (V : Valuation τ sig (Elt F)) :
    after opsB V (main_v15 : DevRef τ sig) = (V (main_v15 : DevRef τ sig)) := by
  after_results

theorem C_ent (V : Valuation τ sig (Elt F)) :
    after opsC V (main_v29 : DevRef τ sig) = entropy (V (main_v15 : DevRef τ sig)) := by
  after_results
  rfl

theorem C_probs (V : Valuation τ sig (Elt F)) :
    after opsC V (main_v15 : DevRef τ sig) = (V (main_v15 : DevRef τ sig)) := by
  after_results

theorem C_col (V : Valuation τ sig (Elt F)) :
    after opsC V (main_v30 : DevRef τ sig) = broadcastInDim S524288x1 ![0] bcast_S524288_S524288x1_0 (V (main_v22 : DevRef τ sig)) := by
  after_results

theorem D_wrapped (V : Valuation τ sig (Elt F)) :
    after opsD V (main_call1_v5 : DevRef τ sig) = wrapped (V (main_v30 : DevRef τ sig)) := by
  after_results
  rfl

theorem D_probs (V : Valuation τ sig (Elt F)) :
    after opsD V (main_v15 : DevRef τ sig) = (V (main_v15 : DevRef τ sig)) := by
  after_results

theorem D_ent (V : Valuation τ sig (Elt F)) :
    after opsD V (main_v29 : DevRef τ sig) = (V (main_v29 : DevRef τ sig)) := by
  after_results

theorem E_inside (V : Valuation τ sig (Elt F)) :
    after opsE V (main_call1_v12 : DevRef τ sig) = inside (V (main_call1_v5 : DevRef τ sig)) := by
  after_results
  unfold inside
  congr 1

theorem E_idx (V : Valuation τ sig (Elt F)) :
    after opsE V (main_call1_v5 : DevRef τ sig) = (V (main_call1_v5 : DevRef τ sig)) := by
  after_results

theorem E_probs (V : Valuation τ sig (Elt F)) :
    after opsE V (main_v15 : DevRef τ sig) = (V (main_v15 : DevRef τ sig)) := by
  after_results

theorem E_ent (V : Valuation τ sig (Elt F)) :
    after opsE V (main_v29 : DevRef τ sig) = (V (main_v29 : DevRef τ sig)) := by
  after_results

theorem F_taken (V : Valuation τ sig (Elt F)) :
    after opsF V (main_v32 : DevRef τ sig) = pick (V (main_call1_v12 : DevRef τ sig)) (V (main_v15 : DevRef τ sig)) (V (main_call1_v5 : DevRef τ sig)) := by
  after_results
  rfl

theorem F_ent (V : Valuation τ sig (Elt F)) :
    after opsF V (main_v29 : DevRef τ sig) = (V (main_v29 : DevRef τ sig)) := by
  after_results

/-- The stages one after another. -/
theorem after_split (V : Valuation τ sig (Elt F)) :
    after ops V = after opsF (after opsE (after opsD (after opsC (after opsB (after opsA V))))) := rfl

theorem sel_eq (V : Valuation τ sig (Elt F)) :
    after ops V (main_v32 : DevRef τ sig) = selR (V (main_arg0 : DevRef τ sig)) (V (main_arg1 : DevRef τ sig)) (V (main_arg2 : DevRef τ sig))
      (V (main_arg3 : DevRef τ sig)) (V (main_arg4 : DevRef τ sig)) := by
  rw [after_split, F_taken, E_inside, E_idx, E_probs, D_wrapped, D_probs, C_probs, C_col, B_probs, B_nearest, A_probs, A_dists]
  rfl

theorem ent_eq (V : Valuation τ sig (Elt F)) :
    after ops V (main_v29 : DevRef τ sig) = entR (V (main_arg0 : DevRef τ sig)) (V (main_arg2 : DevRef τ sig))
      (V (main_arg3 : DevRef τ sig)) := by
  rw [after_split, F_ent, E_ent, D_ent, C_ent, B_probs, A_probs]
  rfl

/-- No operation writes an argument. -/
theorem arg0_eq (V : Valuation τ sig (Elt F)) : after ops V (main_arg0 : DevRef τ sig) = V (main_arg0 : DevRef τ sig) := by rw [after_split]; after_results
theorem arg1_eq (V : Valuation τ sig (Elt F)) : after ops V (main_arg1 : DevRef τ sig) = V (main_arg1 : DevRef τ sig) := by rw [after_split]; after_results
theorem arg2_eq (V : Valuation τ sig (Elt F)) : after ops V (main_arg2 : DevRef τ sig) = V (main_arg2 : DevRef τ sig) := by rw [after_split]; after_results
theorem arg3_eq (V : Valuation τ sig (Elt F)) : after ops V (main_arg3 : DevRef τ sig) = V (main_arg3 : DevRef τ sig) := by rw [after_split]; after_results
theorem arg4_eq (V : Valuation τ sig (Elt F)) : after ops V (main_arg4 : DevRef τ sig) = V (main_arg4 : DevRef τ sig) := by rw [after_split]; after_results

end Cert.Proof.RefRun

end
-- ==== Proof.Argmin.lean ====
/-
  The index of a row's least distance. The reference folds its row's (value, column) pairs by a body that keeps the pair
  with the lesser value, and at equal values the one with the lesser column. Whatever order the pairs come in, what is left
  is a pair that no other precedes, so over finite distances it is the first column of least distance.
-/
module

public import proofs.«01_k».proof.Proof.RefRun
public import Idealize.ShloMosaic.Lib.ValueIdx
public import Idealize.ShloMosaic.Lib.Pointwise
public import Mathlib.Data.Prod.Lex

@[expose] public section

set_option maxRecDepth 16384

noncomputable section

namespace Cert.Proof.Argmin

open Cert.ReferenceIdeal Cert.ReferenceIdeal.Facts₀ Cert.Proof.RefRun
open Idealize.ShloMosaic

/-- A pair's rank: its value first, then its column. -/
def rank (p : EReal × BitVec 32) : EReal ×ₗ ℤ := toLex (p.1, p.2.toInt)

/-- The body keeps the left pair when it precedes the right one. -/
theorem reducer_eq (a b : EReal × BitVec 32) :
    reducer_argmin_f32_i32 (F := Ideal) a b = if rank a < rank b then a else b := by
  obtain ⟨a1, a2⟩ := a
  obtain ⟨b1, b2⟩ := b
  unfold reducer_argmin_f32_i32 rank
  simp only [Prod.Lex.toLex_lt_toLex]
  rcases lt_trichotomy a1 b1 with h | h | h
  · simp [Ideal.cmpf_def, Ideal.cmp, h, h.ne, Scalar.select, IntOp.ori, IntOp.andi]
  · subst h
    by_cases h2 : a2.toInt < b2.toInt <;>
      simp [Ideal.cmpf_def, Ideal.cmp, h2, Scalar.select, IntOp.ori, IntOp.andi, IntOp.cmpi, BitVec.slt]
  · simp [Ideal.cmpf_def, Ideal.cmp, h.not_gt, h.ne', Scalar.select, IntOp.ori, IntOp.andi]

/-- What the fold leaves is the first pair or one of the list, and none precedes it. -/
theorem fold_spec (L : List (EReal × BitVec 32)) (p0 : EReal × BitVec 32) :
    (L.foldl (reducer_argmin_f32_i32 (F := Ideal)) p0 = p0 ∨ L.foldl (reducer_argmin_f32_i32 (F := Ideal)) p0 ∈ L)
      ∧ rank (L.foldl (reducer_argmin_f32_i32 (F := Ideal)) p0) ≤ rank p0
      ∧ ∀ p ∈ L, rank (L.foldl (reducer_argmin_f32_i32 (F := Ideal)) p0) ≤ rank p := by
  induction L generalizing p0 with
  | nil => exact ⟨.inl rfl, le_rfl, fun p hp => absurd hp List.not_mem_nil⟩
  | cons q L ih =>
    rw [List.foldl_cons]
    obtain ⟨h1, h2, h3⟩ := ih (reducer_argmin_f32_i32 (F := Ideal) p0 q)
    have hm : reducer_argmin_f32_i32 (F := Ideal) p0 q = p0 ∨ reducer_argmin_f32_i32 (F := Ideal) p0 q = q := by
      rw [reducer_eq]; split <;> simp
    have hl : rank (reducer_argmin_f32_i32 (F := Ideal) p0 q) ≤ rank p0 ∧ rank (reducer_argmin_f32_i32 (F := Ideal) p0 q) ≤ rank q := by
      rw [reducer_eq]
      split
      · next h => exact ⟨le_rfl, h.le⟩
      · next h => exact ⟨not_lt.1 h, le_rfl⟩
    refine ⟨?_, h2.trans hl.1, fun p hp => ?_⟩
    · rcases h1 with h | h
      · rcases hm with h' | h'
        · exact .inl (h.trans h')
        · exact .inr (by rw [h, h']; exact List.mem_cons_self)
      · exact .inr (List.mem_cons_of_mem _ h)
    · rcases List.mem_cons.1 hp with rfl | hp
      · exact h2.trans hl.2
      · exact h3 p hp

/-- An entry of the distances lies over row `i` when its row is `i`. -/
theorem drop_eq (n : S524288x21.Idx) (i : Fin 524288) : reducesTo_S524288x21_S524288_d1.drop n = ix1 i ↔ n 0 = i := by
  have hv : (reducesTo_S524288x21_S524288_d1.drop n 0).val = (n 0).val :=
    Shape.ReducesTo.drop_apply_val_of_eq reducesTo_S524288x21_S524288_d1 n 0 0 (by decide)
  constructor
  · intro h
    exact Fin.ext (hv.symm.trans (by rw [h]; rfl))
  · intro h
    funext b
    obtain rfl : b = 0 := Fin.ext (by have := b.isLt; show b.val = 0; change b.val < 1 at this; omega)
    exact Fin.ext (hv.trans (by rw [h]; rfl))

/-- The pairs of row `i`, in the order they are folded. -/
def pairs (d : FVec Ideal S524288x21 .f32) (i : Fin 524288) : List (Ideal .f32 × BitVec 32) :=
  Host.argReduceFiber d (iotaInDim S524288x21 32 1) reducesTo_S524288x21_S524288_d1 (ix1 i)

/-- They are every column's distance and number, and nothing else. -/
theorem mem_pairs (d : FVec Ideal S524288x21 .f32) (i : Fin 524288) (p : EReal × BitVec 32) :
    p ∈ pairs d i ↔ ∃ j : Fin 21, p = (d (ix2 i j), BitVec.ofNat 32 j.val) := by
  unfold pairs Host.argReduceFiber
  rw [List.mem_map]
  constructor
  · rintro ⟨n, hn, rfl⟩
    have h0 := (drop_eq _ i).1 (of_decide_eq_true (List.mem_filter.1 hn).2)
    generalize S524288x21.rowMajor.symm n = q at h0 ⊢
    obtain ⟨r, j, rfl⟩ : ∃ (r : Fin 524288) (j : Fin 21), q = ix2 r j := ⟨q 0, q 1, eq_ix2 q⟩
    obtain rfl : r = i := h0
    exact ⟨j, rfl⟩
  · rintro ⟨j, rfl⟩
    refine ⟨S524288x21.rowMajor (ix2 i j), List.mem_filter.2 ⟨List.mem_finRange _, decide_eq_true ?_⟩, ?_⟩
    · rw [Equiv.symm_apply_apply]; exact (drop_eq _ i).2 rfl
    · rw [Equiv.symm_apply_apply]; rfl

theorem top_eq : constant (F := Ideal) S_ .f32 0x7F800000#32 = fun _ => (⊤ : EReal) :=
  funext fun _ => by
    show Ideal.ofBits .f32 0x7F800000#32 = ⊤
    simp [Ideal.ofBits, Ideal.ieee]

/-- The second half of a function's value, by an equation for that value. -/
theorem snd_of {α β γ : Type} {X : α → β × γ} {Y : α → γ} (h : Y = fun j => (X j).2) (j : α) {p : β × γ} (hp : X j = p) : Y j = p.2 := by
  subst h
  exact congrArg Prod.snd hp

/-- The index is the second half of what the fold of the pairs leaves. -/
theorem nearest_eq (d : FVec Ideal S524288x21 .f32) (i : Fin 524288) :
    ∃ p, (pairs d i).foldl (reducer_argmin_f32_i32 (F := Ideal)) ((⊤ : EReal), 0#32) = p ∧ nearest d (ix1 i) = p.2 := by
  have h := congrFun (Ideal.argReduce_eq_reduce2 (reducer_argmin_f32_i32 (F := Ideal)) d (iotaInDim S524288x21 32 1)
    (constant (F := Ideal) S_ .f32 0x7F800000#32) (constantI S_ 32 0#32) reducesTo_S524288x21_S524288_d1 h_S_) (ix1 i)
  have h' := h.trans (Host.reduce2_eq_foldl_fiber _ _ _ _ _ _ h_S_ _)
  refine ⟨_, rfl, snd_of (X := Host.argReduce (reducer_argmin_f32_i32 (F := Ideal)) d (iotaInDim S524288x21 32 1)
    (constant (F := Ideal) S_ .f32 0x7F800000#32) (constantI S_ 32 0#32) reducesTo_S524288x21_S524288_d1 h_S_) (Y := nearest d) rfl (ix1 i) ?_⟩
  have e : ((fun _ => (⊤ : EReal) : FVec Ideal S_ .f32) (Shape.Idx.first h_S_), constantI S_ 32 0#32 (Shape.Idx.first h_S_))
      = (((⊤ : EReal), 0#32) : Ideal .f32 × BitVec 32) := rfl
  rw [h', top_eq]
  unfold pairs
  rw [e]

/-- Over finite distances the index is the first column of least distance. -/
theorem nearest_spec (d : FVec Ideal S524288x21 .f32) (i : Fin 524288) (f : Fin 21 → ℝ) (hd : ∀ j, d (ix2 i j) = (f j : EReal)) :
    ∃ k : Fin 21, nearest d (ix1 i) = BitVec.ofNat 32 k.val ∧ (∀ j, j < k → f k < f j) ∧ ∀ j, k < j → f k ≤ f j := by
  obtain ⟨h1, -, h3⟩ := fold_spec (pairs d i) ((⊤ : EReal), 0#32)
  obtain ⟨r, hr, hn⟩ := nearest_eq d i
  rw [hr] at h1 h3
  rw [hn]
  have hle : ∀ j : Fin 21, rank r ≤ rank ((f j : EReal), BitVec.ofNat 32 j.val) := fun j =>
    h3 _ ((mem_pairs d i _).2 ⟨j, by rw [hd j]⟩)
  have hint : ∀ j : Fin 21, (BitVec.ofNat 32 j.val).toInt = (j.val : ℤ) := by decide
  rcases h1 with rfl | h1
  · exfalso
    have := hle 0
    unfold rank at this
    rw [Prod.Lex.toLex_le_toLex] at this
    rcases this with h | h
    · exact not_top_lt h
    · exact (EReal.coe_ne_top _) h.1.symm
  · obtain ⟨k, rfl⟩ := (mem_pairs d i r).1 h1
    refine ⟨k, rfl, fun j hj => ?_, fun j hj => ?_⟩
    all_goals
      have := hle j
      unfold rank at this
      rw [Prod.Lex.toLex_le_toLex, hd k] at this
      simp only [hint, EReal.coe_lt_coe_iff, EReal.coe_eq_coe_iff] at this
      have hj' := Fin.lt_def.1 hj
    · rcases this with h | h
      · exact h
      · omega
    · rcases this with h | h
      · exact h.le
      · exact h.1.le

end Cert.Proof.Argmin

end
-- ==== Proof.RefValue.lean ====
/-
  The reference's two results at one row, its logits and distances real: the softmax probabilities `Row.selected` and the
  entropy `Row.entropyOf`, whatever real number the row's largest logit is.
-/
module

public import proofs.«01_k».proof.Proof.Row
public import proofs.«01_k».proof.Proof.Argmin
public import Idealize.ShloMosaic.Lib.IdealHost

@[expose] public section

set_option maxRecDepth 16384

noncomputable section

namespace Cert.Proof.RefValue

open Cert.ReferenceIdeal Cert.ReferenceIdeal.Facts₀ Cert.Proof.RefRun Cert.Proof.Argmin
open Idealize.ShloMosaic

variable (x : FVec Ideal S524288x128 .f32) (a : FVec Ideal S524288 .f32) (W : FVec Ideal S21x128 .f32) (b v : FVec Ideal S21 .f32)

theorem logits_apply (i : Fin 524288) (j : Fin 21) :
    logits x W b (ix2 i j) = (∑ k : Fin 128, x (ix2 i k) * W (ix2 j k)) + b (ix1 j) := by
  pointwise [logits]

theorem dists_apply (i : Fin 524288) (j : Fin 21) :
    dists a v (ix2 i j) = max (a (ix1 i) - v (ix1 j)) (-(a (ix1 i) - v (ix1 j))) := by
  pointwise [dists, spread]
  rfl

theorem spread_apply (u : FVec Ideal S524288 .f32) (i : Fin 524288) (j : Fin 21) : spread u (ix2 i j) = u (ix1 i) := by
  pointwise [spread]

theorem normed_apply (e : FVec Ideal S524288x21 .f32) (i : Fin 524288) (j : Fin 21) :
    normed e (ix2 i j) = Ideal.div (e (ix2 i j)) (∑ k : Fin 21, e (ix2 i k)) := by
  pointwise [normed, spread]

theorem entropy_apply (p : FVec Ideal S524288x21 .f32) (i : Fin 524288) :
    entropy p (ix1 i) = Ideal.div (-∑ k : Fin 21, p (ix2 i k) * Ideal.log (p (ix2 i k))) (Ideal.log (Ideal.ofBits .f32 0x41A80000#32)) := by
  pointwise [entropy]

theorem ofBits_21 : Ideal.ofBits .f32 0x41A80000#32 = ((21 : ℝ) : EReal) := by
  simp [Ideal.ofBits, Ideal.ieee, -EReal.coe_mul]
  norm_num

theorem ofBits_bot : Ideal.ofBits .f32 0xFF800000#32 = ⊥ := by
  simp [Ideal.ofBits, Ideal.ieee]

/-- The largest of finitely many reals, not none, is a real. -/
theorem fold_max_real {ι : Type} (s : Finset ι) (f : ι → EReal) (hf : ∀ i ∈ s, ∃ r : ℝ, f i = (r : EReal)) (hs : s.Nonempty) :
    ∃ M : ℝ, s.fold max ⊥ f = (M : EReal) := by
  have h1 : s.fold max ⊥ f ≠ ⊤ := by
    refine ne_of_lt ((Finset.fold_max_lt _).2 ⟨bot_lt_top, fun i hi => ?_⟩)
    obtain ⟨r, hr⟩ := hf i hi
    rw [hr]; exact EReal.coe_lt_top r
  have h2 : s.fold max ⊥ f ≠ ⊥ := by
    obtain ⟨i, hi⟩ := hs
    obtain ⟨r, hr⟩ := hf i hi
    exact ne_of_gt ((Finset.lt_fold_max _).2 (.inr ⟨i, hi, by rw [hr]; exact EReal.bot_lt_coe r⟩))
  exact ⟨_, (EReal.coe_toReal h1 h2).symm⟩

/-- What a row's logits are lowered by: the largest of them. -/
def shift {F : FTy → Type} [FloatOps F] (L : FVec F S524288x21 .f32) : FVec F S524288 .f32 :=
  maximumf (broadcastInDim S524288 ![] bcast_S_S524288 (constant S_ .f32 0xFF800000#32))
    (Host.reduce FloatOps.maximumf L (constant S_ .f32 0xFF800000#32) reducesTo_S524288x21_S524288_d1 h_S_)

theorem exps_eq {F : FTy → Type} [FloatOps F] (L : FVec F S524288x21 .f32) : exps L = Host.exp (subf L (spread (shift L))) := rfl

theorem exps_apply (L : FVec Ideal S524288x21 .f32) (i : Fin 524288) (j : Fin 21) :
    exps L (ix2 i j) = Ideal.exp (L (ix2 i j) - shift L (ix1 i)) := by
  rw [exps_eq, ← spread_apply (shift L) i j]
  rfl

/-- The fold's set of entries is the row's. -/
theorem reduce_max_eq (L : FVec Ideal S524288x21 .f32) (c : FVec Ideal S_ .f32) (j : S524288.Idx) :
    Host.reduce FloatOps.maximumf L c reducesTo_S524288x21_S524288_d1 h_S_ j
      = (Finset.univ.filter fun n => reducesTo_S524288x21_S524288_d1.drop n = j).fold max (c (Shape.Idx.first h_S_)) L :=
  Host.reduce_eq_fold (max : EReal → EReal → EReal) L c reducesTo_S524288x21_S524288_d1 h_S_ j

theorem bot_eq : constant (F := Ideal) S_ .f32 0xFF800000#32 = fun _ => (⊥ : EReal) := funext fun _ => ofBits_bot

/-- The shift of a row of real logits is real. -/
theorem shift_real (L : FVec Ideal S524288x21 .f32) (i : Fin 524288) (l : Fin 21 → ℝ) (hl : ∀ j, L (ix2 i j) = (l j : EReal)) :
    ∃ M : ℝ, shift L (ix1 i) = (M : EReal) := by
  obtain ⟨M, hM⟩ := fold_max_real (Finset.univ.filter fun n => reducesTo_S524288x21_S524288_d1.drop n = ix1 i) L
    (fun n hn => by
      obtain ⟨r, j, rfl⟩ : ∃ (r : Fin 524288) (j : Fin 21), n = ix2 r j := ⟨n 0, n 1, eq_ix2 n⟩
      obtain rfl : r = i := (drop_eq _ i).1 (Finset.mem_filter.1 hn).2
      exact ⟨l j, hl j⟩)
    ⟨ix2 i 0, Finset.mem_filter.2 ⟨Finset.mem_univ _, (drop_eq _ i).2 rfl⟩⟩
  refine ⟨M, ?_⟩
  have h : ∀ u w : FVec Ideal S524288 .f32, maximumf u w (ix1 i) = max (u (ix1 i)) (w (ix1 i)) := fun _ _ => rfl
  unfold shift
  rw [h, reduce_max_eq, bot_eq, hM]
  exact max_eq_right bot_le

/-- The probabilities of a row of real logits. -/
theorem probs_apply (i : Fin 524288) (l : Fin 21 → ℝ) (hl : ∀ j, logits x W b (ix2 i j) = (l j : EReal)) (k : Fin 21) :
    probs x W b (ix2 i k) = (Row.selected l k : EReal) := by
  obtain ⟨M, hM⟩ := shift_real _ i l hl
  have he : ∀ j, exps (logits x W b) (ix2 i j) = Ideal.exp ((l j : EReal) - (M : EReal)) := fun j => by
    rw [exps_apply, hl j, hM]
  unfold probs
  rw [normed_apply]
  simp only [he]
  exact Row.ref_prob l M k

/-- The entropy of a row of real logits. -/
theorem entR_apply (i : Fin 524288) (l : Fin 21 → ℝ) (hl : ∀ j, logits x W b (ix2 i j) = (l j : EReal)) :
    entR x W b (ix1 i) = (Row.entropyOf l : EReal) := by
  unfold entR
  rw [entropy_apply, ofBits_21]
  simp only [probs_apply x W b i l hl]
  exact Row.ref_entropy l

end Cert.Proof.RefValue

end
-- ==== Proof.RefPick.lean ====
/-
  One entry of each row, by index, as `take_along_axis` reads it: over an index column naming columns 0 to 20 nothing wraps,
  every index is inside, and the entry read is the one named.
-/
module

public import proofs.«01_k».proof.Proof.RefRun
public import Idealize.ShloMosaic.Lib.Pointwise
public import Idealize.ShloMosaic.Lib.ValueIdxCore

@[expose] public section

set_option maxRecDepth 16384

noncomputable section

namespace Cert.Proof.RefPick

open Cert.ReferenceIdeal Cert.ReferenceIdeal.Facts₀ Cert.Proof.RefRun
open Idealize.ShloMosaic

section Gather
variable {α : Type} {N C w : Nat}

/-- The dimension numbers of a gather of one entry of each row of an `[N, C]` array. -/
abbrev entryDims (N C : Nat) (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- Row `i`'s entry is the one in the column its index names, held to the last column. -/
theorem gather_entry (hC : 0 < C) (wf : GatherDims.WF ⟨2, ![N, C]⟩ ⟨3, ![N, 1, 1]⟩ ⟨2, ![N, 1]⟩ [] [1] [0] [1] [0] 2 ![1, 1])
    (p : (⟨2, ![N, C]⟩ : Shape).Idx → α) (k : IVec ⟨3, ![N, 1, 1]⟩ w) (i : Fin N) :
    Host.gather (entryDims N C wf) p k (ix2 i 0) = p (ix2 i ⟨min (k (ix3 i 0 0)).toInt.toNat (C - 1), by omega⟩) := by
  have hidx : (entryDims N C wf).operandIdx (ix2 i 0) k = ix2 i ⟨min (k (ix3 i 0 0)).toInt.toNat (C - 1), by omega⟩ := by
    funext c
    refine Fin.ext ?_
    show (entryDims N C wf).start (ix2 i 0) k c + (entryDims N C wf).batchCoord (ix2 i 0) c + (entryDims N C wf).offCoord (ix2 i 0) c = _
    match c with
    | ⟨0, _⟩ =>
      have h0 : (0 : Fin 2) ∈ (entryDims N C wf).operandBatchingDims := List.mem_singleton.2 rfl
      have e1 := (entryDims N C wf).start_batching (ix2 i 0) k 0 h0
      have e2 := (entryDims N C wf).offCoord_eq_zero (ix2 i 0) 0 fun h => (((entryDims N C wf).mem_sKept 0).1 h).2 h0
      have e3 : (entryDims N C wf).batchCoord (ix2 i 0) 0 = i.val := by
        unfold GatherDims.batchCoord
        rw [dif_pos h0]
        rfl
      exact (congrArg₂ (· + ·) (congrArg₂ (· + ·) e1 e3) e2).trans (Nat.zero_add _)
    | ⟨1, _⟩ =>
      have h1 : (1 : Fin 2) ∈ (entryDims N C wf).startIndexMap := List.mem_singleton.2 rfl
      have e2 := (entryDims N C wf).offCoord_eq_zero (ix2 i 0) 1 fun h => (((entryDims N C wf).mem_sKept 1).1 h).1 (List.mem_singleton.2 rfl)
      have e3 := (entryDims N C wf).batchCoord_eq_zero (ix2 i 0) 1 (by decide : (1 : Fin 2) ∉ ([0] : List (Fin 2)))
      have e1 : (entryDims N C wf).start (ix2 i 0) k 1 = min (k (ix3 i 0 0)).toInt.toNat (C - 1) := by
        unfold GatherDims.start
        rw [dif_pos h1]
        have hsi : (entryDims N C wf).siIdx (ix2 i 0) ⟨List.idxOf (1 : Fin 2) (entryDims N C wf).startIndexMap,
            List.idxOf_lt_length_iff.2 h1⟩ = ix3 i 0 0 := by
          funext q
          refine Fin.ext ?_
          match q with
          | ⟨0, _⟩ => rfl
          | ⟨1, _⟩ => rfl
          | ⟨2, _⟩ => rfl
        rw [hsi]
        rfl
      exact (congrArg₂ (· + ·) (congrArg₂ (· + ·) e1 e3) e2)
  exact congrArg p hidx

end Gather

/-- An index below 21 does not wrap. -/
theorem wrap_small (k : Fin 21) :
    Scalar.select (IntOp.cmpi .slt (BitVec.ofNat 32 k.val) 0#32) (IntOp.addi (BitVec.ofNat 32 k.val) 21#32) (BitVec.ofNat 32 k.val)
      = BitVec.ofNat 32 k.val := by
  revert k; decide

/-- Nor is it outside. -/
theorem inside_small (k : Fin 21) :
    IntOp.andi (IntOp.cmpi .sge (BitVec.ofNat 32 k.val) 0#32) (IntOp.cmpi .sle (BitVec.ofNat 32 k.val) 20#32) = 1#1 := by
  revert k; decide

theorem toNat_small (k : Fin 21) : min (BitVec.ofNat 32 k.val).toInt.toNat (21 - 1) = k.val := by
  revert k; decide

/-- The index column at a row. -/
theorem column_apply (n : IVec S524288 32) (i : Fin 524288) (k : Fin 21) (hk : n (ix1 i) = BitVec.ofNat 32 k.val) :
    column n (ix3 i 0 0) = BitVec.ofNat 32 k.val := by
  rw [← wrap_small k, ← hk]
  pointwise [column, wrapped]

/-- The conjunction over an axis of one entry is 1 where the entry is. -/
theorem inside_apply (c : IVec S524288x1x1 32) (i : Fin 524288) (k : Fin 21) (hk : c (ix3 i 0 0) = BitVec.ofNat 32 k.val) :
    inside c (ix2 i 0) = 1#1 := by
  unfold inside
  rw [Host.reduce_eq_foldl]
  have hall : ∀ q ∈ ((List.finRange S524288x1x1.numel).map S524288x1x1.rowMajor.symm).filter fun q =>
      reducesTo_S524288x1x1_S524288x1_d2.drop q = ix2 i 0,
      andi (cmpi .sge c (broadcastInDim S524288x1x1 ![] bcast_S_S524288x1x1 (constantI S_ 32 0#32)))
      (cmpi .sle c (broadcastInDim S524288x1x1 ![0, 1, 2] bcast_S1x1x1_S524288x1x1_0_1_2
        (broadcastInDim S1x1x1 ![2] bcast_S1_S1x1x1_2 (constantI S1 32 20#32)))) q = 1#1 := by
    intro q hq
    have hd := of_decide_eq_true (List.mem_filter.1 hq).2
    obtain ⟨r, u, t, rfl⟩ : ∃ (r : Fin 524288) (u t : Fin 1), q = ix3 r u t := ⟨q 0, q 1, q 2, eq_ix3 q⟩
    obtain rfl : u = 0 := Subsingleton.elim _ _
    obtain rfl : t = 0 := Subsingleton.elim _ _
    have hv := Shape.ReducesTo.drop_apply_val_of_eq reducesTo_S524288x1x1_S524288x1_d2 (ix3 r 0 0) 0 0 (by decide)
    obtain rfl : r = i := Fin.ext (hv.symm.trans (by rw [hd]; rfl))
    rw [← inside_small k, ← hk]
    pointwise
  generalize ((List.finRange S524288x1x1.numel).map S524288x1x1.rowMajor.symm).filter (fun q =>
      reducesTo_S524288x1x1_S524288x1_d2.drop q = ix2 i 0) = L at hall ⊢
  induction L with
  | nil => rfl
  | cons q L ih =>
    rw [List.foldl_cons, hall q List.mem_cons_self]
    exact ih fun q' h' => hall q' (List.mem_cons_of_mem _ h')

/-- The entry read is the one named. -/
theorem pick_apply (p : FVec Ideal S524288x21 .f32) (n : IVec S524288 32) (i : Fin 524288) (k : Fin 21) (hk : n (ix1 i) = BitVec.ofNat 32 k.val) :
    pick (inside (column n)) p (column n) (ix1 i) = p (ix2 i k) := by
  have hc := column_apply n i k hk
  have hi := inside_apply _ i k hc
  have hg := gather_entry (by decide : 0 < 21) gather_S524288x21_S524288x1x1_S524288x1_n_1_0_0_1_2_11_wf p (column n) i
  have hp : pick (inside (column n)) p (column n) (ix1 i) = Scalar.select (inside (column n) (ix2 i 0))
      (Host.gather gather_S524288x21_S524288x1x1_S524288x1_n_1_0_0_1_2_11 p (column n) (ix2 i 0)) (Ideal.ofBits .f32 0x7FC00000#32) := by
    generalize inside (column n) = q
    generalize column n = c
    pointwise [pick]
  rw [hp, hi]
  refine (show Scalar.select 1#1 _ _ = _ from rfl).trans (hg.trans (congrArg p (congrArg (ix2 i) (Fin.ext ?_))))
  show min (column n (ix3 i 0 0)).toInt.toNat (21 - 1) = k.val
  rw [hc]
  exact toNat_small k

end Cert.Proof.RefPick

end
-- ==== Proof.Block.lean ====
/-
  What one block of the kernel computes, element by element: the printed payloads read at an index, over the extended
  reals. Row `r` of 24 is an action (rows 21, 22 and 23 are padding), column `q` of 32768 a position of the batch.
-/
module

public import proofs.«01_k».proof.Proof.Gen.KernelIdeal
public import proofs.«01_k».proof.Proof.Gen.KernelIdeal.Skeleton
public import proofs.«01_k».proof.Proof.RefValue
public import Idealize.ShloMosaic.Lib.Pointwise
public import Idealize.ShloMosaic.Lib.IdealHost

@[expose] public section

set_option maxRecDepth 16384

noncomputable section

namespace Cert.Proof.Block

open Cert.KernelIdeal Cert.KernelIdeal.Gen
open Idealize.ShloMosaic

/-- The twenty-four rows summed in three groups of eight. -/
theorem sum_groups (f : Fin 24 → EReal) :
    (∑ i : Fin 8, (f ⟨i.val, by omega⟩ + f ⟨8 + i.val, by omega⟩ + f ⟨16 + i.val, by omega⟩)) = ∑ r : Fin 24, f r := by
  rw [Finset.sum_add_distrib, Finset.sum_add_distrib]
  rw [show (∑ r : Fin 24, f r) = ∑ r : Fin (8 + 16), f r from rfl, Fin.sum_univ_add,
    show (∑ i : Fin 16, f (Fin.natAdd 8 i)) = ∑ i : Fin (8 + 8), f (Fin.natAdd 8 i) from rfl, Fin.sum_univ_add, ← add_assoc]
  congr 1

variable (x : Vec Ideal S32768x128 .f32) (act : Vec Ideal S1x1x32768 .f32) (wt : Vec Ideal S24x128 .f32)
variable (bp tlo thi : Vec Ideal S24x1 .f32)

/-- The comparison of a row number with 21, decided over the twenty-four rows. -/
theorem row_lt (r : Fin 24) : IntOp.cmpi CmpIPredicate.slt (BitVec.ofNat 32 r.val) 21#32 = if r.val < 21 then 1#1 else 0#1 := by
  revert r; decide

/-- The logit of action `r` at position `q`: −∞ is added on the padding rows. -/
theorem logit_apply (r : Fin 24) (q : Fin 32768) :
    k0_pay3 x wt bp (ix2 r q) = (∑ k : Fin 128, wt (ix2 r k) * x (ix2 q k)) + if r.val < 21 then bp (ix2 r 0) else ⊥ := by
  pointwise [k0_pay3]
  rw [row_lt, show (Named.named κ "mask" 0xF149F2CA#32 : Ideal .f32) = (⊥ : EReal) from
    IdealRules.named_const.ideal_named_scalar _ _ _ _ rfl]
  by_cases h : r.val < 21
  · rw [if_pos h, if_pos h]; rfl
  · rw [if_neg h, if_neg h]; rfl

theorem exp_apply (r : Fin 24) (q : Fin 32768) : k0_pay4 x wt bp (ix2 r q) = Ideal.exp (k0_pay3 x wt bp (ix2 r q)) := by
  pointwise [k0_pay4]

/-- The sum of the exponentials of a column. -/
theorem total_apply (q : Fin 32768) :
    k0_pay5 x wt bp (ix2 0 q) = ∑ r : Fin 24, Ideal.exp (k0_pay3 x wt bp (ix2 r q)) := by
  rw [← sum_groups]
  simp only [← exp_apply]
  unfold k0_pay5
  generalize k0_pay4 x wt bp = e
  pointwise

theorem inverse_apply (q : Fin 32768) :
    k0_pay6 x wt bp (ix2 0 q) = Ideal.div 1 (∑ r : Fin 24, Ideal.exp (k0_pay3 x wt bp (ix2 r q))) := by
  rw [← total_apply, ← Idealize.ShloMosaic.Ideal.ofBits_one_f32]
  unfold k0_pay6
  generalize k0_pay5 x wt bp = e
  pointwise

/-- The entropy the kernel stores, before its reshape. -/
theorem entropy_apply (q : Fin 32768) :
    k0_pay7 x wt bp (ix2 0 q)
      = (Ideal.log (∑ r : Fin 24, Ideal.exp (k0_pay3 x wt bp (ix2 r q)))
          - (∑ r : Fin 24, Ideal.exp (k0_pay3 x wt bp (ix2 r q)) * k0_pay3 x wt bp (ix2 r q))
            * Ideal.div 1 (∑ r : Fin 24, Ideal.exp (k0_pay3 x wt bp (ix2 r q))))
        * Ideal.div 1 (Ideal.log ((21 : ℝ) : EReal)) := by
  rw [← inverse_apply, ← total_apply, ← sum_groups (fun r => Ideal.exp (k0_pay3 x wt bp (ix2 r q)) * k0_pay3 x wt bp (ix2 r q))]
  simp only [← exp_apply]
  rw [← RefValue.ofBits_21, ← Idealize.ShloMosaic.Ideal.ofBits_one_f32]
  unfold k0_pay7
  generalize k0_pay5 x wt bp = e5
  generalize k0_pay6 x wt bp = e6
  generalize k0_pay4 x wt bp = e4
  generalize k0_pay3 x wt bp = e3
  pointwise
  rfl

/-- One comparison with a threshold, as the kernel selects by it. -/
theorem select_ogt (a t e : EReal) :
    Scalar.select (FloatOps.cmpf (F := Ideal) (φ := .f32) .ogt a t) (e : Ideal .f32) (Ideal.ofBits .f32 0x00000000#32 : EReal) = if t < a then e else 0 := by
  rw [Idealize.ShloMosaic.Ideal.ofBits_zero_f32]
  show (if (Ideal.cmp .ogt a t) = 1 then e else 0) = _
  by_cases h : t < a <;> simp [Ideal.cmp, h]

/-- The selected probability the kernel stores: the differences of two masked sums, over the total. -/
theorem selected_apply (e : FVec Ideal S24x32768 .f32) (n : FVec Ideal S1x32768 .f32) (q : Fin 32768) :
    k0_pay1 e n (k0_pay8 act) act tlo thi (ix3 0 0 q)
      = (∑ r : Fin 24, ((if tlo (ix2 r 0) < act (ix3 0 0 q) + act (ix3 0 0 q) then e (ix2 r q) else 0)
          - (if thi (ix2 r 0) < act (ix3 0 0 q) + act (ix3 0 0 q) then e (ix2 r q) else 0))) * n (ix2 0 q) := by
  rw [← sum_groups (fun r => (if tlo (ix2 r 0) < act (ix3 0 0 q) + act (ix3 0 0 q) then e (ix2 r q) else 0)
          - (if thi (ix2 r 0) < act (ix3 0 0 q) + act (ix3 0 0 q) then e (ix2 r q) else 0))]
  simp only [← select_ogt]
  pointwise [k0_pay1, k0_pay8]

theorem stored_apply (v : FVec Ideal S1x32768 .f32) (q : Fin 32768) : k0_pay2 v (ix3 0 0 q) = v (ix2 0 q) := by
  pointwise [k0_pay2]

end Cert.Proof.Block

end
-- ==== Proof.HostArrays.lean ====
/-
  The arrays the kernel is launched on, as the host operations before it leave them: the padded weights `wtv`, the padded
  bias column `bpv`, the thresholds `tlov` and `thiv` built from the action values, and the actions in sixteen rows. Each
  is named as a function of the argument it is made from.
-/
module

public import proofs.«01_k».proof.Proof.Gen.KernelIdeal
public import proofs.«01_k».proof.Proof.Gen.KernelIdeal.Frame
public import Idealize.ShloMosaic.Lib.StableHlo.Run

@[expose] public section

set_option maxRecDepth 16384

noncomputable section

namespace Cert.Proof.HostArrays

open Cert.KernelIdeal Cert.KernelIdeal.Facts₀
open Idealize.ShloMosaic Idealize.ShloMosaic.TcCoe Idealize.ShloMosaic.StableHlo Idealize.SL.Sem

variable {F : FTy → Type} [FloatOps F] [Named F]

/-- One index word. -/
abbrev word (n : BitVec 32) : IVec S1 32 := broadcastInDim S1 ![] bcast_S_S1 (constantI S_ 32 n)

/-- A pair of index words. -/
abbrev cell (a b : IVec S1 32) : IVec S2 32 := concatenate S2 0 [⟨S1, a⟩, ⟨S1, b⟩] concatenates_S1_S1_S2_d0

/-- The column filled with one number. -/
abbrev filled (n : BitVec 32) : FVec F S24x1 .f32 := broadcastInDim S24x1 ![] bcast_S_S24x1 (constant S_ .f32 n)

/-- The weights in the first 21 of 24 rows. -/
abbrev wtv (W : FVec F S21x128 .f32) : FVec F S24x128 .f32 :=
  Host.scatter scatter_S24x128_S1_S21x128_01_n_0_0 (fun _ b => b) (broadcastInDim S24x128 ![] bcast_S_S24x128 (constant S_ .f32 0x00000000#32)) (word 0#32) W

/-- The bias in the first 21 of 24 rows. -/
abbrev bpv (b : FVec F S21 .f32) : FVec F S24x1 .f32 :=
  Host.scatter scatter_S24x1_S2_S21_0_1_01_0 (fun _ b => b) (filled 0x00000000#32) (cell (word 0#32) (word 0#32)) b

abbrev low (v : FVec F S21 .f32) : FVec F S20 .f32 := extractStridedSlice S20 ![0] v slices_S21_S20_0
abbrev high (v : FVec F S21 .f32) : FVec F S20 .f32 := extractStridedSlice S20 ![1] v slices_S21_S20_1
/-- The sums of neighbouring action values. -/
abbrev sums (v : FVec F S21 .f32) : FVec F S20 .f32 := addf (low v) (high v)
abbrev shrunk (s : FVec F S20 .f32) : FVec F S20 .f32 :=
  subf s (mulf s (broadcastInDim S20 ![] bcast_S_S20 (constant S_ .f32 0x33800000#32)))
/-- Where the rounding error of a sum is not negative. -/
abbrev rounded (v : FVec F S21 .f32) : IVec S20 1 :=
  cmpf .oge (subf (high v) (subf (sums v) (low v))) (broadcastInDim S20 ![] bcast_S_S20 (constant S_ .f32 0x00000000#32))

/-- The thresholds between neighbouring actions. -/
abbrev tau (v : FVec F S21 .f32) : FVec F S20 .f32 := select (rounded v) (sums v) (shrunk (sums v))

/-- The upper thresholds of the rows. -/
abbrev thiv (t : FVec F S20 .f32) : FVec F S24x1 .f32 :=
  Host.scatter scatter_S24x1_S2_S20_0_1_01_0 (fun _ b => b) (filled 0x7F800000#32) (cell (word 0#32) (word 0#32)) t

/-- The lower thresholds of the rows: one row down, −∞ at the top. -/
abbrev tlov (t : FVec F S20 .f32) : FVec F S24x1 .f32 :=
  Host.scatter scatter_S24x1_S2_S__n_01_01_0 (fun _ b => b)
    (Host.scatter scatter_S24x1_S2_S20_0_1_01_0 (fun _ b => b) (filled 0x7F800000#32) (cell (word 1#32) (word 0#32)) t)
    (cell (word 0#32) (word 0#32)) (constant S_ .f32 0xFF800000#32)

variable (U : Valuation τ sig (Elt F))

theorem first_wt : after Gen.hostOps0 U (main_v2 : DevRef τ sig) = wtv (U (main_arg2 : DevRef τ sig)) := by
  after_results

theorem first_bp : after Gen.hostOps0 U (main_v7 : DevRef τ sig) = bpv (U (main_arg3 : DevRef τ sig)) := by
  after_results

theorem first_sums : after Gen.hostOps0 U (main_v10 : DevRef τ sig) = sums (U (main_arg4 : DevRef τ sig)) := by
  after_results

theorem first_rounded : after Gen.hostOps0 U (main_v14 : DevRef τ sig) = rounded (U (main_arg4 : DevRef τ sig)) := by
  after_results

theorem first_shrunk : after Gen.hostOps0 U (main_v17 : DevRef τ sig) = shrunk (sums (U (main_arg4 : DevRef τ sig))) := by
  after_results

theorem first_act : after Gen.hostOps0 U (main_arg1 : DevRef τ sig) = U (main_arg1 : DevRef τ sig) := by
  after_results

theorem second_tau : after Gen.hostOps0_1 U (main_v18 : DevRef τ sig)
    = (select (U (main_v14 : DevRef τ sig) : IVec S20 1) (U (main_v10 : DevRef τ sig) : FVec F S20 .f32) (U (main_v17 : DevRef τ sig)) : FVec F S20 .f32) := by
  after_results
  rfl

theorem second_wt : after Gen.hostOps0_1 U (main_v2 : DevRef τ sig) = U (main_v2 : DevRef τ sig) := by
  after_results

theorem second_bp : after Gen.hostOps0_1 U (main_v7 : DevRef τ sig) = U (main_v7 : DevRef τ sig) := by
  after_results

theorem second_act : after Gen.hostOps0_1 U (main_arg1 : DevRef τ sig) = U (main_arg1 : DevRef τ sig) := by
  after_results

theorem third_wt : after Gen.hostOps0_2 U (main_v2 : DevRef τ sig) = U (main_v2 : DevRef τ sig) := by
  after_results

theorem third_bp : after Gen.hostOps0_2 U (main_v7 : DevRef τ sig) = U (main_v7 : DevRef τ sig) := by
  after_results

theorem third_thi : after Gen.hostOps0_2 U (main_v23 : DevRef τ sig) = thiv (U (main_v18 : DevRef τ sig)) := by
  after_results

theorem third_tlo : after Gen.hostOps0_2 U (main_v32 : DevRef τ sig) = tlov (U (main_v18 : DevRef τ sig)) := by
  after_results

theorem third_act : after Gen.hostOps0_2 U (main_v33 : DevRef τ sig)
    = shapeCast S16x1x32768 (U (main_arg1 : DevRef τ sig) : FVec F S524288 .f32) shapeCasts_S524288_S16x1x32768 := by
  after_results
  rfl

/-- The host operations one stretch after another. -/
theorem stretches : after (List.flatten [Gen.hostOps0, Gen.hostOps0_1, Gen.hostOps0_2]) U
    = after Gen.hostOps0_2 (after Gen.hostOps0_1 (after Gen.hostOps0 U)) := rfl

variable (m : (ℓ : Loc nD τ sig) → Buf (Elt F) ℓ) (c : Dev nD)

theorem V_wt : Gen.V m c main_v2 = wtv (m ((c : Thread nD τ).loc main_arg2)) := by
  show after (List.flatten [Gen.hostOps0, Gen.hostOps0_1, Gen.hostOps0_2]) _ (main_v2 : DevRef τ sig) = _
  rw [stretches, third_wt, second_wt, first_wt]

theorem V_bp : Gen.V m c main_v7 = bpv (m ((c : Thread nD τ).loc main_arg3)) := by
  show after (List.flatten [Gen.hostOps0, Gen.hostOps0_1, Gen.hostOps0_2]) _ (main_v7 : DevRef τ sig) = _
  rw [stretches, third_bp, second_bp, first_bp]

theorem V_thi : Gen.V m c main_v23 = thiv (tau (m ((c : Thread nD τ).loc main_arg4))) := by
  show after (List.flatten [Gen.hostOps0, Gen.hostOps0_1, Gen.hostOps0_2]) _ (main_v23 : DevRef τ sig) = _
  rw [stretches, third_thi, second_tau, first_rounded, first_sums, first_shrunk]

theorem V_tlo : Gen.V m c main_v32 = tlov (tau (m ((c : Thread nD τ).loc main_arg4))) := by
  show after (List.flatten [Gen.hostOps0, Gen.hostOps0_1, Gen.hostOps0_2]) _ (main_v32 : DevRef τ sig) = _
  rw [stretches, third_tlo, second_tau, first_rounded, first_sums, first_shrunk]

theorem V_act : Gen.V m c main_v33
    = (shapeCast S16x1x32768 (m ((c : Thread nD τ).loc main_arg1) : FVec F S524288 .f32) shapeCasts_S524288_S16x1x32768 : FVec F S16x1x32768 .f32) := by
  show after (List.flatten [Gen.hostOps0, Gen.hostOps0_1, Gen.hostOps0_2]) _ (main_v33 : DevRef τ sig) = _
  rw [stretches, third_act, second_act, first_act]

end Cert.Proof.HostArrays

end
-- ==== Proof.HostValue.lean ====
/-
  The arrays the kernel is launched on, read at an index over the extended reals.
-/
module

public import proofs.«01_k».proof.Proof.HostArrays
public import proofs.«01_k».proof.Proof.RefValue
public import Idealize.ShloMosaic.Lib.Routing.OpsOne
public import Idealize.ShloMosaic.Lib.Pointwise
public import Idealize.ShloMosaic.Lib.IdealHost

@[expose] public section

set_option maxRecDepth 16384

noncomputable section

namespace Cert.Proof.HostValue

open Cert.KernelIdeal Cert.KernelIdeal.Facts₀ Cert.Proof.HostArrays
open Idealize.ShloMosaic

/-! ## The padded weights -/

/-- An update of the weights' scatter lands in its own row and column, the index word being zero. -/
theorem lands (idx : IVec S1 32) (h : (idx (ix1 0)).toInt = 0) (r' : Fin 21) (c' : Fin 128) (r : Fin 24) (c : Fin 128) :
    (scatter_S24x128_S1_S21x128_01_n_0_0).resultIdx? (ix2 r' c') idx = some (ix2 r c) ↔ r'.val = r.val ∧ c'.val = c.val := by
  have hkept : (scatter_S24x128_S1_S21x128_01_n_0_0).sKept = [0, 1] := by rfl
  have w0 : (scatter_S24x128_S1_S21x128_01_n_0_0).window (ix2 r' c') 0 = r'.val := by
    unfold ScatterDims.window
    rw [dif_pos (by rw [hkept]; simp)]
    rfl
  have w1 : (scatter_S24x128_S1_S21x128_01_n_0_0).window (ix2 r' c') 1 = c'.val := by
    unfold ScatterDims.window
    rw [dif_pos (by rw [hkept]; simp)]
    rfl
  have s1 : (scatter_S24x128_S1_S21x128_01_n_0_0).start (ix2 r' c') idx 1 = 0 := by
    unfold ScatterDims.start
    rw [dif_neg (by decide)]
  have s0 : (scatter_S24x128_S1_S21x128_01_n_0_0).start (ix2 r' c') idx 0 = 0 := by
    unfold ScatterDims.start
    rw [dif_pos (by decide)]
    rw [← h]
    congr 2
    funext b'
    match b' with
    | ⟨0, _⟩ => exact Subsingleton.elim (α := Fin 1) _ _
  refine (Routing.resultIdx?_ix2 scatter_S24x128_S1_S21x128_01_n_0_0 (ix2 r' c') idx r c).trans ?_
  rw [s0, s1, w0, w1]
  omega

theorem word_toInt (i : S1.Idx) : (word 0#32 i).toInt = 0 := by
  pointwise
  rfl

theorem wt_apply (W : FVec Ideal S21x128 .f32) (r : Fin 24) (c : Fin 128) :
    wtv W (ix2 r c) = if h : r.val < 21 then W (ix2 ⟨r.val, h⟩ c) else 0 := by
  by_cases h : r.val < 21
  · rw [dif_pos h]
    refine Routing.scatter_set_hit _ _ _ _ _ _ (fun k hk => ?_) (ix2 ⟨r.val, h⟩ c) ((lands _ (word_toInt _) _ _ _ _).2 ⟨rfl, rfl⟩)
    obtain ⟨r', c', rfl⟩ : ∃ (r' : Fin 21) (c' : Fin 128), k = ix2 r' c' := ⟨k 0, k 1, eq_ix2 k⟩
    obtain ⟨h0, h1⟩ := (lands _ (word_toInt _) _ _ _ _).1 hk
    exact congrArg W (congrArg₂ ix2 (Fin.ext h0) (Fin.ext h1))
  · rw [dif_neg h]
    refine (Routing.scatter_set_miss _ _ _ _ _ (fun k hk => ?_)).trans ?_
    · obtain ⟨r', c', rfl⟩ : ∃ (r' : Fin 21) (c' : Fin 128), k = ix2 r' c' := ⟨k 0, k 1, eq_ix2 k⟩
      obtain ⟨h0, h1⟩ := (lands _ (word_toInt _) _ _ _ _).1 hk
      have := r'.isLt
      omega
    · pointwise

/-! ## Columns written from a row on -/

theorem cell_fst (a b : BitVec 32) : cell (word a) (word b) (ix1 0) = a := by
  pointwise

theorem cell_snd (a b : BitVec 32) : cell (word a) (word b) (ix1 1) = b := by
  pointwise

/-- The column from row `o` on, as the scatter writes it: entry `r − o` of the update in row `r`. -/
theorem column_apply {N : ℕ} (d : ScatterDims S24x1 S2 ⟨1, ![N]⟩) (hN : 0 < N) (hiw : d.insertedWindowDims = [1])
    (hsd : d.scatterDimsToOperandDims = [0, 1]) (hivd : d.indexVectorDim = 0) (x0 : FVec Ideal S24x1 .f32) (o : ℕ) (w : BitVec 32)
    (hw : w.toInt = (o : ℤ)) (u : FVec Ideal ⟨1, ![N]⟩ .f32) (r : Fin 24) :
    Host.scatter d (fun _ b => b) x0 (cell (word w) (word 0#32)) u (ix2 r 0)
      = if h : o ≤ r.val ∧ r.val - o < N then u (ix1 ⟨r.val - o, h.2⟩) else x0 (ix2 r 0) := by
  have h0 : (cell (word w) (word 0#32) (ix1 0)).toInt = (o : ℤ) := by rw [cell_fst, hw]
  have h1 : (cell (word w) (word 0#32) (ix1 1)).toInt = 0 := by rw [cell_snd]; rfl
  refine (Routing.scatter_column_signed d hN hiw hsd hivd x0 _ u (ix2 r 0)).trans ?_
  generalize cell (word w) (word 0#32) = idx at h0 h1
  have e0 : ((ix2 r (0 : Fin 1) : S24x1.Idx) 0).val = r.val := rfl
  have e1 : ((ix2 r (0 : Fin 1) : S24x1.Idx) 1).val = 0 := rfl
  by_cases h : o ≤ r.val ∧ r.val - o < N
  · rw [dif_pos h, if_pos]
    · refine congrArg u (congrArg ix1 (Fin.ext ?_))
      show (((r.val : ℤ) - (idx (ix1 0)).toInt).toNat) % N = r.val - o
      rw [h0, show ((r.val : ℤ) - (o : ℤ)).toNat = r.val - o by omega, Nat.mod_eq_of_lt h.2]
    · refine ⟨h1, ?_, ?_⟩
      · show (idx (ix1 0)).toInt ≤ (r.val : ℤ)
        rw [h0]; omega
      · show (r.val : ℤ) < (idx (ix1 0)).toInt + N
        rw [h0]; omega
  · rw [dif_neg h, if_neg]
    rintro ⟨-, a, b⟩
    have a' : (idx (ix1 0)).toInt ≤ (r.val : ℤ) := a
    have b' : (r.val : ℤ) < (idx (ix1 0)).toInt + N := b
    rw [h0] at a' b'
    omega

theorem bp_apply (b : FVec Ideal S21 .f32) (r : Fin 24) (h : r.val < 21) : bpv b (ix2 r 0) = b (ix1 ⟨r.val, h⟩) := by
  refine (column_apply _ (by decide) rfl rfl rfl _ 0 _ rfl b r).trans ?_
  rw [dif_pos ⟨Nat.zero_le _, h⟩]
  rfl

theorem filled_top (r : Fin 24) : (filled 0x7F800000#32 : FVec Ideal S24x1 .f32) (ix2 r 0) = (⊤ : EReal) := by
  pointwise
  simp [Ideal.ofBits, Ideal.ieee]

theorem thi_apply (t : FVec Ideal S20 .f32) (r : Fin 24) :
    thiv t (ix2 r 0) = if h : r.val < 20 then t (ix1 ⟨r.val, h⟩) else (⊤ : EReal) := by
  refine (column_apply _ (by decide) rfl rfl rfl _ 0 _ rfl t r).trans ?_
  rw [filled_top]
  by_cases h : r.val < 20
  · rw [dif_pos ⟨Nat.zero_le _, h⟩, dif_pos h]
    rfl
  · rw [dif_neg (fun hh => h hh.2), dif_neg h]

theorem tlo_apply (t : FVec Ideal S20 .f32) (r : Fin 24) :
    tlov t (ix2 r 0) = if r.val = 0 then (⊥ : EReal) else if h : 1 ≤ r.val ∧ r.val - 1 < 20 then t (ix1 ⟨r.val - 1, h.2⟩) else (⊤ : EReal) := by
  refine (Routing.scatter_cell_signed _ rfl rfl rfl _ _ _ r (0 : Fin 1)).trans ?_
  have h0 : (cell (word 0#32) (word 0#32) (ix1 0)).toInt = 0 := by rw [cell_fst]; rfl
  have h1 : (cell (word 0#32) (word 0#32) (ix1 1)).toInt = 0 := by rw [cell_snd]; rfl
  by_cases h : r.val = 0
  · rw [if_pos h, if_pos ⟨h0.trans (by rw [h]; rfl), h1⟩]
    pointwise
    exact RefValue.ofBits_bot
  · rw [if_neg h, if_neg (fun hh => h (by have := h0.symm.trans hh.1; omega))]
    refine (column_apply _ (by decide) rfl rfl rfl _ 1 _ rfl t r).trans ?_
    rw [filled_top]

/-! ## The thresholds over real action values -/

/-- Over the reals a sum is exact, so every threshold is the sum of the two neighbouring action values. -/
theorem tau_apply (v : FVec Ideal S21 .f32) (f : Fin 21 → ℝ) (hf : ∀ j, v (ix1 j) = (f j : EReal)) (j : Fin 20) :
    tau v (ix1 j) = ((f j.castSucc + f j.succ : ℝ) : EReal) := by
  have hs : (⟨1 + j.val, by omega⟩ : Fin 21) = j.succ := Fin.ext (by simp [Nat.add_comm])
  pointwise
  rw [hf, hf, hs]
  show (if (0 : EReal) ≤ (f j.succ : EReal) - ((f j.castSucc : EReal) + (f j.succ : EReal) - (f j.castSucc : EReal)) then _ else _) = _
  rw [if_pos]
  · exact (EReal.coe_add _ _).symm
  · rw [← EReal.coe_add, ← EReal.coe_sub, ← EReal.coe_sub, show f j.succ - (f j.castSucc + f j.succ - f j.castSucc) = 0 by ring]
    exact le_rfl

theorem tlo_lower (v : FVec Ideal S21 .f32) (f : Fin 21 → ℝ) (hf : ∀ j, v (ix1 j) = (f j : EReal)) (r : Fin 24) :
    tlov (tau v) (ix2 r 0) = Row.lower f r := by
  rw [tlo_apply]
  unfold Row.lower
  by_cases h0 : r.val = 0
  · rw [if_pos h0, if_pos h0]
  rw [if_neg h0, if_neg h0]
  by_cases h : r.val < 21
  · rw [dif_pos h, dif_pos ⟨by omega, by omega⟩, tau_apply v f hf]
    refine congrArg _ (congrArg₂ (· + ·) rfl (congrArg f (Fin.ext ?_)))
    show r.val - 1 + 1 = r.val
    omega
  · rw [dif_neg h, dif_neg (by omega)]

theorem thi_upper (v : FVec Ideal S21 .f32) (f : Fin 21 → ℝ) (hf : ∀ j, v (ix1 j) = (f j : EReal)) (r : Fin 24) :
    thiv (tau v) (ix2 r 0) = Row.upper f r := by
  rw [thi_apply]
  unfold Row.upper
  by_cases h : r.val < 20
  · rw [dif_pos h, dif_pos h, tau_apply v f hf]
    rfl
  · rw [dif_neg h, dif_neg h]

end Cert.Proof.HostValue

end
-- ==== Proof.KernelRun.lean ====
/-
  What the kernel's run leaves in its two result arrays. The sixteen blocks of each output tile it, so the array holds at
  `(t, 0, q)` what the body stored at position `q` at point `t`; the reshape that follows lays the sixteen rows end to end.
-/
module

public import proofs.«01_k».proof.Proof.Gen.KernelIdeal.Frame
public import Idealize.ShloMosaic.Lib.Pipeline.Value
public import Idealize.ShloMosaic.Lib.Pointwise
public import Idealize.ShloMosaic.Lib.StableHlo.Run

@[expose] public section

set_option maxRecDepth 16384

noncomputable section

namespace Cert.Proof.KernelRun

open Cert.KernelIdeal Cert.KernelIdeal.Gen
open Idealize.ShloMosaic Idealize.ShloMosaic.TcCoe Idealize.ShloMosaic.StableHlo Idealize.SL.Sem
open Idealize.ShloMosaic.Pipeline (Dat)

variable {F : FTy → Type} [FloatOps F] [Named F]
variable (m : (ℓ : Loc nD τ sig) → Buf (Elt F) ℓ) (ρ : Dev nD → PrngReg) (c : Dev nD)

/-! ## Where the blocks lie -/

theorem index_0 : ∀ t : Fin grid0.N, win0_0.index t 0 = t.val ∧ win0_0.index t 1 = 0 := by decide +kernel
theorem index_1 : ∀ t : Fin grid0.N, win0_1.index t 0 = t.val ∧ win0_1.index t 1 = 0 ∧ win0_1.index t 2 = 0 := by decide +kernel
theorem index_2 : ∀ t : Fin grid0.N, win0_2.index t 0 = 0 ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = 0 ∧ win0_4.index t 1 = 0 := by decide +kernel
theorem index_5 : ∀ t : Fin grid0.N, win0_5.index t 0 = 0 ∧ win0_5.index t 1 = 0 := by decide +kernel
theorem index_6 : ∀ t : Fin grid0.N, win0_6.index t 0 = t.val ∧ win0_6.index t 1 = 0 ∧ win0_6.index t 2 = 0 := by decide +kernel
theorem index_7 : ∀ t : Fin grid0.N, win0_7.index t 0 = t.val ∧ win0_7.index t 1 = 0 ∧ win0_7.index t 2 = 0 := by decide +kernel

/-- Position `q` of block `t`, as a row of the batch. -/
def row (t : Fin grid0.N) (q : Fin 32768) : Fin 524288 := ⟨t.val * 32768 + q.val, by have := t.isLt; have h : grid0.N = 16 := N_0; omega⟩

/-- The point a row belongs to. -/
def point (i : S16x1x32768.Idx) : Fin grid0.N := ⟨(i 0).val, by have h : grid0.N = 16 := N_0; rw [h]; exact (i 0).isLt⟩

/-- A point as a coordinate of the arrays of sixteen lines. -/
def block (t : Fin cfg0.N) : Fin 16 := ⟨t.val, by have := t.isLt; have h : cfg0.N = 16 := N_0; omega⟩

theorem blk_x (t : Fin cfg0.N) (q : Fin 32768) (k : Fin 128) :
    iblk m c 0 t (ix2 q k) = m ((c : Thread nD τ).loc main_arg0) (ix2 (row t q) k) := by
  rw [← V_main_arg0 m c]
  show V m c main_arg0 ((win0_0.rect t).emb (ix2 q k)) = _
  congr 1
  funext a
  match a with
  | ⟨0, _⟩ => exact Fin.ext (by
      show win0_0.index t 0 * 32768 + 1 * q.val = t.val * 32768 + q.val
      rw [(index_0 t).1]; omega)
  | ⟨1, _⟩ => exact Fin.ext (by
      show win0_0.index t 1 * 128 + 1 * k.val = k.val
      rw [(index_0 t).2]; omega)

theorem blk_act (t : Fin cfg0.N) (q : Fin 32768) :
    iblk m c 1 t (ix3 0 0 q) = V m c main_v33 (ix3 (block t) (0 : Fin 1) q) := by
  show V m c main_v33 ((win0_1.rect t).emb (ix3 0 0 q)) = _
  congr 1
  funext a
  match a with
  | ⟨0, _⟩ => exact Fin.ext (by
      show win0_1.index t 0 * 1 + 1 * 0 = t.val
      rw [(index_1 t).1]; omega)
  | ⟨1, _⟩ => exact Fin.ext (by
      show win0_1.index t 1 * 1 + 1 * 0 = 0
      rw [(index_1 t).2.1])
  | ⟨2, _⟩ => exact Fin.ext (by
      show win0_1.index t 2 * 32768 + 1 * q.val = q.val
      rw [(index_1 t).2.2]; omega)

theorem blk_wt (t : Fin cfg0.N) : iblk m c 2 t = V m c main_v2 := by
  funext y
  obtain ⟨r, k, rfl⟩ : ∃ (r : Fin 24) (k : Fin 128), y = ix2 r k := ⟨y 0, y 1, eq_ix2 y⟩
  show V m c main_v2 ((win0_2.rect t).emb (ix2 r k)) = _
  congr 1
  funext a
  match a with
  | ⟨0, _⟩ => exact Fin.ext (by
      show win0_2.index t 0 * 24 + 1 * r.val = r.val
      rw [(index_2 t).1]; omega)
  | ⟨1, _⟩ => exact Fin.ext (by
      show win0_2.index t 1 * 128 + 1 * k.val = k.val
      rw [(index_2 t).2]; omega)

theorem blk_bp (t : Fin cfg0.N) : iblk m c 3 t = V m c main_v7 := by
  funext y
  obtain ⟨r, k, rfl⟩ : ∃ (r : Fin 24) (k : Fin 1), y = ix2 r k := ⟨y 0, y 1, eq_ix2 y⟩
  show V m c main_v7 ((win0_3.rect t).emb (ix2 r k)) = _
  congr 1
  funext a
  match a with
  | ⟨0, _⟩ => exact Fin.ext (by
      show win0_3.index t 0 * 24 + 1 * r.val = r.val
      rw [(index_3 t).1]; omega)
  | ⟨1, _⟩ => exact Fin.ext (by
      show win0_3.index t 1 * 1 + 1 * k.val = k.val
      rw [(index_3 t).2]; omega)

theorem blk_tlo (t : Fin cfg0.N) : iblk m c 4 t = V m c main_v32 := by
  funext y
  obtain ⟨r, k, rfl⟩ : ∃ (r : Fin 24) (k : Fin 1), y = ix2 r k := ⟨y 0, y 1, eq_ix2 y⟩
  show V m c main_v32 ((win0_4.rect t).emb (ix2 r k)) = _
  congr 1
  funext a
  match a with
  | ⟨0, _⟩ => exact Fin.ext (by
      show win0_4.index t 0 * 24 + 1 * r.val = r.val
      rw [(index_4 t).1]; omega)
  | ⟨1, _⟩ => exact Fin.ext (by
      show win0_4.index t 1 * 1 + 1 * k.val = k.val
      rw [(index_4 t).2]; omega)

theorem blk_thi (t : Fin cfg0.N) : iblk m c 5 t = V m c main_v23 := by
  funext y
  obtain ⟨r, k, rfl⟩ : ∃ (r : Fin 24) (k : Fin 1), y = ix2 r k := ⟨y 0, y 1, eq_ix2 y⟩
  show V m c main_v23 ((win0_5.rect t).emb (ix2 r k)) = _
  congr 1
  funext a
  match a with
  | ⟨0, _⟩ => exact Fin.ext (by
      show win0_5.index t 0 * 24 + 1 * r.val = r.val
      rw [(index_5 t).1]; omega)
  | ⟨1, _⟩ => exact Fin.ext (by
      show win0_5.index t 1 * 1 + 1 * k.val = k.val
      rw [(index_5 t).2]; omega)

/-! ## What a point stores -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block of selected probabilities from the input blocks. -/
abbrev selB (x : Vec F S32768x128 .f32) (act : Vec F S1x1x32768 .f32) (wt : Vec F S24x128 .f32) (bp tlo thi : Vec F S24x1 .f32) : Vec F S1x1x32768 .f32 :=
  k0_pay1 (k0_pay4 x wt bp) (k0_pay6 x wt bp) (k0_pay8 act) act tlo thi

/-- The block of entropies. -/
abbrev entB (x : Vec F S32768x128 .f32) (wt : Vec F S24x128 .f32) (bp : Vec F S24x1 .f32) : Vec F S1x1x32768 .f32 :=
  k0_pay2 (k0_pay7 x wt bp)

theorem out_sel (x : Vec F S32768x128 .f32) (act : Vec F S1x1x32768 .f32) (wt : Vec F S24x128 .f32) (bp tlo thi : Vec F S24x1 .f32) :
    out0_6 x act wt bp tlo thi = selB x act wt bp tlo thi := by
  unfold out0_6
  rw [View.canon_unit_zero hz3, View.ld_unit_zero hz2, View.ld_unit_zero hz2, View.ld_unit_zero hz2, View.ld_unit_zero hz3,
    View.ld_unit_zero hz2, View.ld_unit_zero hz2]

theorem out_ent (x : Vec F S32768x128 .f32) (act : Vec F S1x1x32768 .f32) (wt : Vec F S24x128 .f32) (bp tlo thi : Vec F S24x1 .f32) :
    out0_7 x act wt bp tlo thi = entB x wt bp := by
  unfold out0_7
  rw [View.canon_unit_zero hz3, View.ld_unit_zero hz2, View.ld_unit_zero hz2, View.ld_unit_zero hz2]

/-- The selected probabilities stored at point `t`. -/
def selAt (t : Fin cfg0.N) : Vec F S1x1x32768 .f32 :=
  selB (iblk m c 0 t) (iblk m c 1 t) (V m c main_v2) (V m c main_v7) (V m c main_v32) (V m c main_v23)

/-- The entropies stored at point `t`. -/
def entAt (t : Fin cfg0.N) : Vec F S1x1x32768 .f32 :=
  entB (iblk m c 0 t) (V m c main_v2) (V m c main_v7)

/-- What the first result array is shown to hold. -/
def selG : Buf (Elt F) ((c : Thread nD τ).loc main_v34_0) := fun i : S16x1x32768.Idx => selAt m c (point i) (ix3 0 0 (i 2))

/-- What the second result array is shown to hold. -/
def entG : Buf (Elt F) ((c : Thread nD τ).loc main_v34_1) := fun i : S16x1x32768.Idx => entAt m c (point i) (ix3 0 0 (i 2))

theorem emb_6 (t : Fin cfg0.N) (q : Fin 32768) : point ((win0_6.rect t).emb (ix3 0 0 q)) = t ∧ ((win0_6.rect t).emb (ix3 0 0 q)) 2 = q := by
  refine ⟨Fin.ext ?_, Fin.ext ?_⟩
  · show win0_6.index t 0 * 1 + 1 * 0 = t.val
    rw [(index_6 t).1]; omega
  · show win0_6.index t 2 * 32768 + 1 * q.val = q.val
    rw [(index_6 t).2.2]; omega

theorem emb_7 (t : Fin cfg0.N) (q : Fin 32768) : point ((win0_7.rect t).emb (ix3 0 0 q)) = t ∧ ((win0_7.rect t).emb (ix3 0 0 q)) 2 = q := by
  refine ⟨Fin.ext ?_, Fin.ext ?_⟩
  · show win0_7.index t 0 * 1 + 1 * 0 = t.val
    rw [(index_7 t).1]; omega
  · show win0_7.index t 2 * 32768 + 1 * q.val = q.val
    rw [(index_7 t).2.2]; omega

theorem eq_line (y : S1x1x32768.Idx) : ∃ q : Fin 32768, y = ix3 (0 : Fin 1) (0 : Fin 1) q :=
  ⟨y 2, (eq_ix3 y).trans (by rw [Subsingleton.elim (α := Fin 1) (y 0) 0, Subsingleton.elim (α := Fin 1) (y 1) 0])⟩

theorem flushed_sel (t : Fin cfg0.N) : (dats m 0 c).flushed 6 t = (win0_6.blk t).view.read (Elt F) (selG m c) := by
  show (cfg0.win 6).cut (grid0.coords t) ((dats m 0 c).after 6 t) = _
  rw [after0_6, out_sel, blk_wt, blk_bp, blk_tlo, blk_thi]
  funext y
  obtain ⟨q, rfl⟩ := eq_line y
  show selAt m c t (ix3 0 0 q) = selAt m c (point ((win0_6.rect t).emb (ix3 0 0 q))) (ix3 0 0 (((win0_6.rect t).emb (ix3 0 0 q)) 2))
  rw [(emb_6 t q).1, (emb_6 t q).2]

theorem flushed_ent (t : Fin cfg0.N) : (dats m 0 c).flushed 7 t = (win0_7.blk t).view.read (Elt F) (entG m c) := by
  show (cfg0.win 7).cut (grid0.coords t) ((dats m 0 c).after 7 t) = _
  rw [after0_7, out_ent, blk_wt, blk_bp]
  funext y
  obtain ⟨q, rfl⟩ := eq_line y
  show entAt m c t (ix3 0 0 q) = entAt m c (point ((win0_7.rect t).emb (ix3 0 0 q))) (ix3 0 0 (((win0_7.rect t).emb (ix3 0 0 q)) 2))
  rw [(emb_7 t q).1, (emb_7 t q).2]

/-! ## The blocks tile the arrays -/

theorem cover_sel (i : S16x1x32768.Idx) :
    ∃ t : Fin cfg0.N, (cfg0.win 6).flush t = true ∧ i ∈ ((cfg0.win 6).blk t).view.set := by
  refine ⟨point i, flush0_6 _, ?_⟩
  show i ∈ ((View.whole main_v34_0).slice (win0_6.rect (point i))).set
  rw [View.set_slice_whole, ← Rect.map_emb_univ, Finset.mem_map]
  refine ⟨ix3 0 0 (i 2), Finset.mem_univ _, ?_⟩
  funext a
  match a with
  | ⟨0, _⟩ => exact Fin.ext (congrArg (fun s : Fin grid0.N => s.val) (emb_6 (point i) (i 2)).1)
  | ⟨1, _⟩ => exact Subsingleton.elim (α := Fin 1) _ _
  | ⟨2, _⟩ => exact (emb_6 (point i) (i 2)).2

theorem cover_ent (i : S16x1x32768.Idx) :
    ∃ t : Fin cfg0.N, (cfg0.win 7).flush t = true ∧ i ∈ ((cfg0.win 7).blk t).view.set := by
  refine ⟨point i, flush0_7 _, ?_⟩
  show i ∈ ((View.whole main_v34_1).slice (win0_7.rect (point i))).set
  rw [View.set_slice_whole, ← Rect.map_emb_univ, Finset.mem_map]
  refine ⟨ix3 0 0 (i 2), Finset.mem_univ _, ?_⟩
  funext a
  match a with
  | ⟨0, _⟩ => exact Fin.ext (congrArg (fun s : Fin grid0.N => s.val) (emb_7 (point i) (i 2)).1)
  | ⟨1, _⟩ => exact Subsingleton.elim (α := Fin 1) _ _
  | ⟨2, _⟩ => exact (emb_7 (point i) (i 2)).2

/-- The first result array after the grid. -/
theorem final_sel : (dats m 0 c).arrAt 6 cfg0.N = selG m c :=
  (dats m 0 c).arrAt_eq_of_cover 6 (selG m c) (fun t _ => flushed_sel m c t) cover_sel

/-- The second result array after the grid. -/
theorem final_ent : (dats m 0 c).arrAt 7 cfg0.N = entG m c :=
  (dats m 0 c).arrAt_eq_of_cover 7 (entG m c) (fun t _ => flushed_ent m c t) cover_ent

/-! ## The reshapes after the grid, and the run -/

/-- The selected probabilities, one for each row. -/
def selV : Buf (Elt F) ((c : Thread nD τ).loc main_v35) := shapeCast S524288 (selG m c) shapeCasts_S16x1x32768_S524288

/-- The entropies, one for each row. -/
def entV : Buf (Elt F) ((c : Thread nD τ).loc main_v36) := shapeCast S524288 (entG m c) shapeCasts_S16x1x32768_S524288

theorem tail_sel : Pipeline.afterTail₀ cfgs (dats m) 0 (V0 m) [hostOps1] c main_v35 = selV m c := by
  unfold Pipeline.afterTail₀
  have e := (Pipeline.withArrays_arr spec0 launch0.win.arr_inj c (V0 m c) (fun w => (dats m 0 c).arrAt w (cfgs 0).N) 6).trans (final_sel m c)
  show StableHlo.after hostOps1 _ (Proc.devRef .tc main_v35) = _
  unfold hostOps1
  after_results
  exact congrArg (fun A : Buf (Elt F) ((c : Thread nD τ).loc main_v34_0) => shapeCast S524288 A shapeCasts_S16x1x32768_S524288) e

theorem tail_ent : Pipeline.afterTail₀ cfgs (dats m) 0 (V0 m) [hostOps1] c main_v36 = entV m c := by
  unfold Pipeline.afterTail₀
  have e := (Pipeline.withArrays_arr spec0 launch0.win.arr_inj c (V0 m c) (fun w => (dats m 0 c).arrAt w (cfgs 0).N) 7).trans (final_ent m c)
  show StableHlo.after hostOps1 _ (Proc.devRef .tc main_v36) = _
  unfold hostOps1
  after_results
  exact congrArg (fun A : Buf (Elt F) ((c : Thread nD τ).loc main_v34_1) => shapeCast S524288 A shapeCasts_S16x1x32768_S524288) e

/-- The run: the two results are the reshaped arrays, and the five arguments are as launched. -/
theorem run : θ_run defs (onTc (τ := τ) (main (F := F))) ⟨m, fun _ => 0, ρ⟩ fun r => ∀ c : Dev nD,
    r.2.mem ((c.tc : Thread nD τ).loc main_v35) = selV m c
      ∧ r.2.mem ((c.tc : Thread nD τ).loc main_v36) = entV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main m ρ)
  have rest : ∀ b ∈ Pipeline.restRefs sig spec0, r.2.mem ((c.tc : Thread nD τ).loc b) = Pipeline.afterTail₀ cfgs (dats m) 0 (V0 m) [hostOps1] c b := (h c).2
  exact ⟨(rest main_v35 (Pipeline.mem_restRefs_of main_v35 (by decide) (by decide))).trans (tail_sel m c),
    (rest main_v36 (Pipeline.mem_restRefs_of main_v36 (by decide) (by decide))).trans (tail_ent m c),
    ((h c).1 0).trans (((dats m 0 c).arrAt_in 0 rfl _).trans ((A_eq m c 0).trans (V_main_arg0 m c))),
    (rest main_arg1 (Pipeline.mem_restRefs_of main_arg1 (by decide) (by decide))).trans (W_main_arg1 m (dats m) c),
    (rest main_arg2 (Pipeline.mem_restRefs_of main_arg2 (by decide) (by decide))).trans (W_main_arg2 m (dats m) c),
    (rest main_arg3 (Pipeline.mem_restRefs_of main_arg3 (by decide) (by decide))).trans (W_main_arg3 m (dats m) c),
    (rest main_arg4 (Pipeline.mem_restRefs_of main_arg4 (by decide) (by decide))).trans (W_main_arg4 m (dats m) c)⟩

/-! ## The results read at a row -/

/-- Position `(t, 0, q)` of the lines and row `32768 t + q` are the same place in row-major order. -/
theorem flat (t : Fin cfg0.N) (q : Fin 32768) :
    (S16x1x32768.rowMajor (ix3 (block t) (0 : Fin 1) q)).val = (S524288.rowMajor (ix1 (row t q))).val := by
  rw [Shape.rowMajor_val_three, Shape.rowMajor_val_one]
  show (t.val * 1 + 0) * 32768 + q.val = t.val * 32768 + q.val
  omega

/-- The rows laid out in sixteen lines, read at a position. -/
theorem lines_apply {α : Type} (v : S524288.Idx → α) (t : Fin cfg0.N) (q : Fin 32768) :
    shapeCast S16x1x32768 v shapeCasts_S524288_S16x1x32768 (ix3 (block t) (0 : Fin 1) q) = v (ix1 (row t q)) :=
  shapeCast_apply v _ _ _ (flat t q).symm

theorem selV_apply (t : Fin cfg0.N) (q : Fin 32768) : selV m c (ix1 (row t q)) = selAt m c t (ix3 0 0 q) := by
  refine (shapeCast_apply (selG m c) shapeCasts_S16x1x32768_S524288 (ix1 (row t q)) (ix3 (block t) (0 : Fin 1) q) (flat t q)).trans ?_
  rfl

theorem entV_apply (t : Fin cfg0.N) (q : Fin 32768) : entV m c (ix1 (row t q)) = entAt m c t (ix3 0 0 q) := by
  refine (shapeCast_apply (entG m c) shapeCasts_S16x1x32768_S524288 (ix1 (row t q)) (ix3 (block t) (0 : Fin 1) q) (flat t q)).trans ?_
  rfl

/-- Every row is some position of some block. -/
theorem eq_row (i : Fin 524288) : ∃ (t : Fin cfg0.N) (q : Fin 32768), i = row t q :=
  ⟨⟨i.val / 32768, by have h : cfg0.N = 16 := N_0; rw [h]; omega⟩, ⟨i.val % 32768, by omega⟩, Fin.ext (by show i.val = i.val / 32768 * 32768 + i.val % 32768; omega)⟩

end Cert.Proof.KernelRun

end
-- ==== Proof.Equation.lean ====
/-
  The equation of the two programs. The arguments being finite, a row's 21 logits are real numbers; the kernel's body and the
  reference then both store the same two functions of them, the probability of the selected action and the entropy.
-/
module

public import proofs.«01_k».proof.Proof.Row
public import proofs.«01_k».proof.Proof.Argmin
public import proofs.«01_k».proof.Proof.RefValue
public import proofs.«01_k».proof.Proof.RefPick
public import proofs.«01_k».proof.Proof.Block
public import proofs.«01_k».proof.Proof.HostValue
public import proofs.«01_k».proof.Proof.KernelRun

@[expose] public section

set_option maxRecDepth 16384

noncomputable section

namespace Cert.Proof.Equation

open Idealize.ShloMosaic Idealize.ShloMosaic.TcCoe
open Cert.KernelIdeal

variable (x : FVec Ideal S524288x128 .f32) (a : FVec Ideal S524288 .f32) (W : FVec Ideal S21x128 .f32)
variable (b : FVec Ideal S21 .f32) (v : FVec Ideal S21 .f32)

variable (xr : Fin 524288 → Fin 128 → ℝ) (ar : Fin 524288 → ℝ) (Wr : Fin 21 → Fin 128 → ℝ) (br vr : Fin 21 → ℝ)

/-- The logits of row `i`. -/
def line (i : Fin 524288) (j : Fin 21) : ℝ := (∑ k : Fin 128, xr i k * Wr j k) + br j

variable {x a W b v xr ar Wr br vr}
variable (hx : ∀ i k, x (ix2 i k) = (xr i k : EReal)) (ha : ∀ i, a (ix1 i) = (ar i : EReal))
variable (hW : ∀ j k, W (ix2 j k) = (Wr j k : EReal)) (hb : ∀ j, b (ix1 j) = (br j : EReal))
variable (hv : ∀ j, v (ix1 j) = (vr j : EReal)) (mono : StrictMono vr)

/-! ## The reference -/

include hx hW hb in
theorem ref_logits (i : Fin 524288) (j : Fin 21) : RefRun.logits x W b (ix2 i j) = (line xr Wr br i j : EReal) := by
  rw [RefValue.logits_apply]
  unfold line
  simp only [hx, hW, hb]
  rw [EReal.coe_add, Row.coe_sum]
  simp only [EReal.coe_mul]

include ha hv in
theorem ref_dists (i : Fin 524288) (j : Fin 21) : RefRun.dists a v (ix2 i j) = ((|ar i - vr j| : ℝ) : EReal) := by
  rw [RefValue.dists_apply, ha, hv, ← EReal.coe_sub, ← EReal.coe_neg, abs_eq_max_neg]
  exact (EReal.coe_strictMono.monotone.map_max).symm

include hx ha hW hb hv in
theorem ref_selected (i : Fin 524288) :
    ∃ k : Fin 21, Row.Nearest vr (ar i) k ∧ RefRun.selR x a W b v (ix1 i) = (Row.selected (line xr Wr br i) k : EReal) := by
  obtain ⟨k, hk, near⟩ := Argmin.nearest_spec (RefRun.dists a v) i (fun j => |ar i - vr j|) (ref_dists ha hv i)
  refine ⟨k, near, ?_⟩
  exact (RefPick.pick_apply _ _ i k hk).trans (RefValue.probs_apply x W b i (line xr Wr br i) (ref_logits hx hW hb i) k)

include hx hW hb in
theorem ref_entropy (i : Fin 524288) : RefRun.entR x W b (ix1 i) = (Row.entropyOf (line xr Wr br i) : EReal) :=
  RefValue.entR_apply x W b i (line xr Wr br i) (ref_logits hx hW hb i)

/-! ## The kernel's block -/

section Kernel

variable {xb : FVec Ideal S32768x128 .f32} {ab : FVec Ideal S1x1x32768 .f32}
variable (i : Fin 524288) (q : Fin 32768)
variable (hxb : ∀ k, xb (ix2 q k) = x (ix2 i k)) (hab : ab (ix3 (0 : Fin 1) (0 : Fin 1) q) = a (ix1 i))

include hx hW hb hxb in
/-- The body's logits are the row's, and the rows past the twenty-first hold the mask. -/
theorem ker_logit (r : Fin 24) :
    Gen.k0_pay3 xb (HostArrays.wtv W) (HostArrays.bpv b) (ix2 r q) = Row.padded (line xr Wr br i) r := by
  rw [Block.logit_apply]
  by_cases h : r.val < 21
  · rw [if_pos h]
    refine Eq.trans ?_ (Row.padded_lt (line xr Wr br i) ⟨r.val, h⟩).symm
    refine Eq.trans ?_ (ref_logits hx hW hb i ⟨r.val, h⟩)
    rw [RefValue.logits_apply, HostValue.bp_apply b r h]
    have e : ∀ k : Fin 128, (HostArrays.wtv W (ix2 r k) : EReal) * xb (ix2 q k) = (x (ix2 i k) : EReal) * W (ix2 ⟨r.val, h⟩ k) := fun k => by
      rw [HostValue.wt_apply, dif_pos h, hxb]
      exact mul_comm (W (ix2 ⟨r.val, h⟩ k) : EReal) (x (ix2 i k))
    rw [Finset.sum_congr rfl fun k _ => e k]
  · rw [if_neg h, Row.padded_ge _ _ (Nat.le_of_not_lt h)]
    exact EReal.add_bot _

include hx ha hW hb hv mono hxb hab in
theorem ker_selected (k : Fin 21) (near : Row.Nearest vr (ar i) k) :
    KernelRun.selB xb ab (HostArrays.wtv W) (HostArrays.bpv b) (HostArrays.tlov (HostArrays.tau v)) (HostArrays.thiv (HostArrays.tau v))
      (ix3 (0 : Fin 1) (0 : Fin 1) q) = (Row.selected (line xr Wr br i) k : EReal) := by
  refine (Block.selected_apply ab _ _ _ _ q).trans ?_
  rw [Block.inverse_apply]
  simp only [Block.exp_apply, ker_logit hx hW hb i q hxb, hab, ha, HostValue.tlo_lower v vr hv, HostValue.thi_upper v vr hv, ← EReal.coe_add]
  exact Row.ker_selected vr (line xr Wr br i) mono (ar i) k near

include hx hW hb hxb in
theorem ker_entropy :
    KernelRun.entB xb (HostArrays.wtv W) (HostArrays.bpv b) (ix3 (0 : Fin 1) (0 : Fin 1) q) = (Row.entropyOf (line xr Wr br i) : EReal) := by
  refine (Block.stored_apply _ q).trans ?_
  rw [Block.entropy_apply]
  simp only [ker_logit hx hW hb i q hxb]
  exact Row.ker_entropy (line xr Wr br i)

end Kernel

end Cert.Proof.Equation

end
-- ==== Proof.Results.lean ====
/-
  The kernel's two results are the reference's two functions of the arguments, under the precondition.
-/
module

public import proofs.«01_k».proof.Defs
public import proofs.«01_k».proof.Proof.Pre
public import proofs.«01_k».proof.Proof.Equation
public import proofs.«01_k».proof.Proof.Gen.Pre_finite_increasing

@[expose] public section

set_option maxRecDepth 16384

noncomputable section

namespace Cert.Proof.Results

open Idealize.ShloMosaic Idealize.ShloMosaic.TcCoe
open Cert.KernelIdeal

/-- Arguments of real numbers, the action values increasing. -/
structure Reals (x : FVec Ideal S524288x128 .f32) (a : FVec Ideal S524288 .f32) (W : FVec Ideal S21x128 .f32)
    (b : FVec Ideal S21 .f32) (v : FVec Ideal S21 .f32) where
  xr : Fin 524288 → Fin 128 → ℝ
  ar : Fin 524288 → ℝ
  Wr : Fin 21 → Fin 128 → ℝ
  br : Fin 21 → ℝ
  vr : Fin 21 → ℝ
  hx : ∀ i k, x (ix2 i k) = (xr i k : EReal)
  ha : ∀ i, a (ix1 i) = (ar i : EReal)
  hW : ∀ j k, W (ix2 j k) = (Wr j k : EReal)
  hb : ∀ j, b (ix1 j) = (br j : EReal)
  hv : ∀ j, v (ix1 j) = (vr j : EReal)
  mono : StrictMono vr

variable (m : (ℓ : Loc nD τ sig) → Buf (Elt Ideal) ℓ) (c : Dev nD)

/-! The five arguments as launched. -/

abbrev batch : FVec Ideal S524288x128 .f32 := m ((c.tc : Thread nD τ).loc main_arg0)
abbrev actions : FVec Ideal S524288 .f32 := m ((c.tc : Thread nD τ).loc main_arg1)
abbrev weights : FVec Ideal S21x128 .f32 := m ((c.tc : Thread nD τ).loc main_arg2)
abbrev biases : FVec Ideal S21 .f32 := m ((c.tc : Thread nD τ).loc main_arg3)
abbrev values : FVec Ideal S21 .f32 := m ((c.tc : Thread nD τ).loc main_arg4)

/-- The precondition gives such numbers. -/
theorem reals (h : Cert.Pre_KernelIdeal_finite_increasing m) :
    Nonempty (Reals (batch m c) (actions m c) (weights m c)
      (biases m c) (values m c)) := by
  obtain ⟨h0, h1, h2, h3, h4, h5⟩ := h c
  choose xr hx using Pre.real_x _ _ _ _ _ h0
  choose ar ha using Pre.real_a _ _ _ _ _ h1
  choose Wr hW using Pre.real_W _ _ _ _ _ h2
  choose br hb using Pre.real_b _ _ _ _ _ h3
  choose vr hv using Pre.real_v _ _ _ _ _ h4
  refine ⟨⟨xr, ar, Wr, br, vr, hx, ha, hW, hb, hv, Fin.strictMono_iff_lt_succ.2 fun j => ?_⟩⟩
  have s := Pre.step_v _ _ _ _ _ h5 j
  rw [hv, hv] at s
  exact EReal.coe_lt_coe_iff.1 s

/-- The first result. -/
theorem sel_eq (h : Cert.Pre_KernelIdeal_finite_increasing m) :
    (KernelRun.selV m c : FVec Ideal S524288 .f32) = RefRun.selR (F := Ideal) (batch m c) (actions m c)
      (weights m c) (biases m c) (values m c) := by
  obtain ⟨d⟩ := reals m c h
  funext y
  obtain ⟨i, rfl⟩ : ∃ i : Fin 524288, y = ix1 i := ⟨y 0, eq_ix1 y⟩
  obtain ⟨t, q, rfl⟩ := KernelRun.eq_row i
  obtain ⟨k, near, e⟩ := Equation.ref_selected d.hx d.ha d.hW d.hb d.hv (KernelRun.row t q)
  refine (KernelRun.selV_apply m c t q).trans (Eq.trans ?_ e.symm)
  unfold KernelRun.selAt
  rw [HostArrays.V_wt, HostArrays.V_bp, HostArrays.V_tlo, HostArrays.V_thi]
  refine Equation.ker_selected d.hx d.ha d.hW d.hb d.hv d.mono (KernelRun.row t q) q (KernelRun.blk_x m c t q) ?_ k near
  rw [KernelRun.blk_act, HostArrays.V_act]
  exact KernelRun.lines_apply _ t q

/-- The second result. -/
theorem ent_eq (h : Cert.Pre_KernelIdeal_finite_increasing m) :
    (KernelRun.entV m c : FVec Ideal S524288 .f32) = RefRun.entR (F := Ideal) (batch m c)
      (weights m c) (biases m c) := by
  obtain ⟨d⟩ := reals m c h
  funext y
  obtain ⟨i, rfl⟩ : ∃ i : Fin 524288, y = ix1 i := ⟨y 0, eq_ix1 y⟩
  obtain ⟨t, q, rfl⟩ := KernelRun.eq_row i
  refine (KernelRun.entV_apply m c t q).trans (Eq.trans ?_ (Equation.ref_entropy d.hx d.hW d.hb (KernelRun.row t q)).symm)
  unfold KernelRun.entAt
  rw [HostArrays.V_wt, HostArrays.V_bp]
  exact Equation.ker_entropy d.hx d.hW d.hb (KernelRun.row t q) q (KernelRun.blk_x m c t q)

end Cert.Proof.Results

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.Gen.Pre_finite_increasing
public import proofs.«01_k».proof.Proof.Results
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem

/-! ## The reference's run -/

section Reference

open Cert.ReferenceIdeal

variable (m : (ℓ : Loc nD τ sig) → Buf (Elt Ideal) ℓ) (ρ : Dev nD → PrngReg)

/-- The reference ends with its two functions of the arguments, and the arguments as launched. -/
theorem ref_run : θ_run (defs (F := Ideal)) (onTc (τ := τ) (main (F := Ideal))) ⟨m, fun _ => 0, ρ⟩ fun r => ∀ c : Dev nD,
    r.2.mem ((c.tc : Thread nD τ).loc main_v32) = RefRun.selR (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v29) = RefRun.entR (F := Ideal) (m ((c.tc : Thread nD τ).loc main_arg0))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v32).trans (RefRun.sel_eq _), (h c main_v29).trans (RefRun.ent_eq _),
      (h c main_arg0).trans (RefRun.arg0_eq _), (h c main_arg1).trans (RefRun.arg1_eq _), (h c main_arg2).trans (RefRun.arg2_eq _),
      (h c main_arg3).trans (RefRun.arg3_eq _), (h c main_arg4).trans (RefRun.arg4_eq _)⟩)
    (run_seq RefRun.scopedRefs_eq RefRun.scopedSems_eq defs main (fun _ => RefRun.ops) RefRun.main_eq (fun _ => RefRun.ops_sub) m ρ)

/-- Its frame: it has no semaphore, so all counters read zero. -/
theorem ref_frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2.2, Idealize.ShloMosaic.sem_eq_zero_of_no_sems (by decide) r.2⟩) (ref_run m ρ)

end Reference

/-- Every claim of the certificate. -/
theorem claim : Cert.Claim :=
  ⟨Cert.Kernel.Gen.facts, Cert.KernelIdeal.Gen.facts, Cert.ReferenceIdeal.Gen.facts, Cert.Pre_finite_increasing.Gen.facts,
    fun m g _ => Cert.Kernel.Gen.frame m g,
    fun m g _ => Cert.KernelIdeal.Gen.frame m g,
    fun m g _ => Cert.KernelIdeal.Gen.frame m g,
    fun m g _ => ref_frame m g,
    fun m g _ => ref_frame m g,
    IdealRules.named_const.statement Cert.KernelIdeal.κ "mask" .f32 0xF149F2CA#32 ⊥ rfl,
    fun m g m' g' pre same => by
      refine ⟨fun c => KernelRun.selV m c, fun c => KernelRun.entV m c, KernelRun.run m g, ?_⟩
      refine (θ_run _ _ _).mono (fun r h c => ?_) (ref_run m' g')
      obtain ⟨e0, e1, e2, e3, e4⟩ := same c
      obtain ⟨hs, he, rest⟩ := h c
      rw [e0, e1, e2, e3, e4] at hs
      rw [e0, e2, e3] at he
      exact ⟨hs.trans (Results.sel_eq m c pre).symm, he.trans (Results.ent_eq m c pre).symm, rest⟩⟩

end Cert.Proof

end
